-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_steps_not_negative [hPre_steps_not_negative : Cert.Pre_steps_not_negative.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_steps_not_negative.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_steps_not_negative [hPre_steps_not_negative : Cert.Pre_steps_not_negative.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_steps_not_negative.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_steps_not_negative [hKernel6Ideal : Cert.Kernel6Ideal.Facts] [hPre_steps_not_negative : Cert.Pre_steps_not_negative.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_steps_not_negative m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_steps_not_negative [hReference6Ideal : Cert.Reference6Ideal.Facts] [hPre_steps_not_negative : Cert.Pre_steps_not_negative.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_steps_not_negative m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v7_6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_steps_not_negative [hKernel6Ideal : Cert.Kernel6Ideal.Facts] [hReference6Ideal : Cert.Reference6Ideal.Facts] [hPre_steps_not_negative : Cert.Pre_steps_not_negative.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_steps_not_negative m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_steps_not_negative : Cert.Pre_steps_not_negative.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_steps_not_negative (hKernel6Ideal := hKernel6Ideal) (hPre_steps_not_negative := hPre_steps_not_negative)
    ∧ quiescent_Reference6Ideal (hReference6Ideal := hReference6Ideal)
    ∧ quiescent_Reference6Ideal_pre_steps_not_negative (hReference6Ideal := hReference6Ideal) (hPre_steps_not_negative := hPre_steps_not_negative)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_steps_not_negative (hKernel6Ideal := hKernel6Ideal) (hReference6Ideal := hReference6Ideal) (hPre_steps_not_negative := hPre_steps_not_negative)
-- ==== Pre_steps_not_negative.lean ====
abbrev S128x128x128 : Shape := ⟨3, ![128, 128, 128]⟩
abbrev S128x128x8 : Shape := ⟨3, ![128, 128, 8]⟩
abbrev S128x4 : Shape := ⟨2, ![128, 4]⟩
abbrev S4x128x128 : Shape := ⟨3, ![4, 128, 128]⟩
abbrev S128x128 : Shape := ⟨2, ![128, 128]⟩
abbrev S_ : Shape := ⟨0, ![]⟩

class Facts : Prop where
  bcast_S_S128x128 : S_.BroadcastsInDim S128x128 (![] : Fin 0 → Fin S128x128.rank)

variable [Facts]

def fn {F : FTy → Type} [FloatOps F] (main_arg0 : FVec F S128x128x128 .f32) (main_arg1 : FVec F S128x128x128 .f32) (main_arg2 : FVec F S128x128x8 .f32) (main_arg3 : FVec F S128x4 .f32) (main_arg4 : FVec F S4x128x128 .f32) (main_arg5 : FVec F S128x128 .f32) : IVec S128x128 1 :=
  let main_cst : FVec F S_ .f32 := constant S_ .f32 0x00000000#32
  let main_v0 : FVec F S128x128 .f32 := broadcastInDim S128x128 ![] bcast_S_S128x128 main_cst
  let main_v1 : IVec S128x128 1 := cmpf .oge main_arg5 main_v0
  main_v1
-- ==== Kernel.lean ====
abbrev S16384x8 : Shape := ⟨2, ![16384, 8]⟩
abbrev S8x128 : Shape := ⟨2, ![8, 128]⟩
abbrev S1x128 : Shape := ⟨2, ![1, 128]⟩
abbrev S128x128 : Shape := ⟨2, ![128, 128]⟩
abbrev S128x1024 : Shape := ⟨2, ![128, 1024]⟩
abbrev S1024x128 : Shape := ⟨2, ![1024, 128]⟩
abbrev S16384x128 : Shape := ⟨2, ![16384, 128]⟩
abbrev S256x8 : Shape := ⟨2, ![256, 8]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S128 : Shape := ⟨1, ![128]⟩
abbrev S128x1 : Shape := ⟨2, ![128, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x8, .f32⟩
  | .hbm, ⟨1, _⟩ => ⟨S8x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024x128, .f32⟩
  | .hbm, ⟨11, _⟩ => ⟨S16384x128, .f32⟩
  | .local _ .vmem, ⟨0, _⟩ => ⟨S256x8, .f32⟩
  | .local _ .vmem, ⟨1, _⟩ => ⟨S256x8, .f32⟩
  | .local _ .vmem, ⟨2, _⟩ => ⟨S8x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1024x128, .f32⟩
  | .local _ .vmem, ⟨12, _⟩ => ⟨S256x128, .f32⟩
  | .local _ .vmem, ⟨13, _⟩ => ⟨S256x128, .f32⟩
  | _, _ => ⟨S16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x8 : Shape := ⟨2, ![16384, 8]⟩
abbrev S8x128 : Shape := ⟨2, ![8, 128]⟩
abbrev S1x128 : Shape := ⟨2, ![1, 128]⟩
abbrev S128x128 : Shape := ⟨2, ![128, 128]⟩
abbrev S128x1024 : Shape := ⟨2, ![128, 1024]⟩
abbrev S1024x128 : Shape := ⟨2, ![1024, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S128x128x8x128 : Shape := ⟨4, ![128, 128, 8, 128]⟩
abbrev S128x8x128x128 : Shape := ⟨4, ![128, 8, 128, 128]⟩
abbrev S128x8x128 : Shape := ⟨3, ![128, 8, 128]⟩
abbrev S128x8x128x1 : Shape := ⟨4, ![128, 8, 128, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x8, .f32⟩
  | .hbm, ⟨1, _⟩ => ⟨S8x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x128, .f32⟩
  | .hbm, ⟨36, _⟩ => ⟨S16384x128, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S128x128x8x128, .f32⟩
  | .hbm, ⟨51, _⟩ => ⟨S128x8x128x128, .f32⟩
  | .hbm, ⟨52, _⟩ => ⟨S128x128x8x128, .f32⟩
  | .hbm, ⟨53, _⟩ => ⟨S128x8x128x128, .f32⟩
  | .hbm, ⟨54, _⟩ => ⟨S128x128x8x128, .f32⟩
  | .hbm, ⟨55, _⟩ => ⟨S128x8x128x128, .f32⟩
  | .hbm, ⟨56, _⟩ => ⟨S128x8x128x128, .f32⟩
  | .hbm, ⟨57, _⟩ => ⟨S_, .f32⟩
  | .hbm, ⟨58, _⟩ => ⟨S_, .f32⟩
  | .hbm, ⟨59, _⟩ => ⟨S128x8x128x128, .f32⟩
  | .hbm, ⟨60, _⟩ => ⟨S128x8x128x128, .f32⟩
  | .hbm, ⟨61, _⟩ => ⟨S_, .f32⟩
  | .hbm, ⟨62, _⟩ => ⟨S128x8x128, .f32⟩
  | .hbm, ⟨63, _⟩ => ⟨S_, .f32⟩
  | .hbm, ⟨64, _⟩ => ⟨S128x8x128, .f32⟩
  | .hbm, ⟨65, _⟩ => ⟨S128x8x128, .f32⟩
  | .hbm, ⟨66, _⟩ => ⟨S128x8x128x1, .f32⟩
  | .hbm, ⟨67, _⟩ => ⟨S128x8x128x128, .f32⟩
  | .hbm, ⟨68, _⟩ => ⟨S128x8x128x128, .f32⟩
  | .hbm, ⟨69, _⟩ => ⟨S128x8x128x128, .f32⟩
  | .hbm, ⟨70, _⟩ => ⟨S_, .f32⟩
  | .hbm, ⟨71, _⟩ => ⟨S128x8x128, .f32⟩
  | .hbm, ⟨72, _⟩ => ⟨S128x8x128x1, .f32⟩
  | .hbm, ⟨73, _⟩ => ⟨S128x8x128x128, .f32⟩
  | .hbm, ⟨74, _⟩ => ⟨S128x8x128x128, .f32⟩
  | .hbm, ⟨75, _⟩ => ⟨S128x8x128x128, .f32⟩
  | .hbm, ⟨76, _⟩ => ⟨S128x128x8x128, .f32⟩
  | .hbm, ⟨77, _⟩ => ⟨S16384x1024, .f32⟩
  | .hbm, ⟨78, _⟩ => ⟨S16384x128, .f32⟩
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel2.lean ====
abbrev S16384x128 : Shape := ⟨2, ![16384, 128]⟩
abbrev S128 : Shape := ⟨1, ![128]⟩
abbrev S128x256 : Shape := ⟨2, ![128, 256]⟩
abbrev S128x4 : Shape := ⟨2, ![128, 4]⟩
abbrev S128x8 : Shape := ⟨2, ![128, 8]⟩
abbrev S1x128 : Shape := ⟨2, ![1, 128]⟩
abbrev S16384x8 : Shape := ⟨2, ![16384, 8]⟩
abbrev S2048x128 : Shape := ⟨2, ![2048, 128]⟩
abbrev S2048x8 : Shape := ⟨2, ![2048, 8]⟩
abbrev S2048 : Shape := ⟨1, ![2048]⟩
abbrev S2048x1 : Shape := ⟨2, ![2048, 1]⟩
abbrev S2048x256 : Shape := ⟨2, ![2048, 256]⟩

abbrev nBuf : Space → Nat
  | .hbm => 18
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128x4, .f32⟩
  | .hbm, ⟨7, _⟩ => ⟨S128x4, .f32⟩
  | .hbm, ⟨8, _⟩ => ⟨S128x8, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S16384x8, .f32⟩
  | .hbm, ⟨16, _⟩ => ⟨S16384x128, .f32⟩
  | .hbm, ⟨17, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S1x128, .f32⟩
  | .local _ .vmem, ⟨4, _⟩ => ⟨S128x256, .f32⟩
  | .local _ .vmem, ⟨5, _⟩ => ⟨S1x128, .f32⟩
  | .local _ .vmem, ⟨6, _⟩ => ⟨S1x128, .f32⟩
  | .local _ .vmem, ⟨7, _⟩ => ⟨S128x8, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x8, .f32⟩
  | .local _ .vmem, ⟨13, _⟩ => ⟨S2048x8, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x128 : Shape := ⟨2, ![16384, 128]⟩
abbrev S128 : Shape := ⟨1, ![128]⟩
abbrev S128x256 : Shape := ⟨2, ![128, 256]⟩
abbrev S128x4 : Shape := ⟨2, ![128, 4]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S16384x256 : Shape := ⟨2, ![16384, 256]⟩
abbrev S16384x4 : Shape := ⟨2, ![16384, 4]⟩
abbrev S16384x8 : Shape := ⟨2, ![16384, 8]⟩

abbrev nBuf : Space → Nat
  | .hbm => 64
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128x4, .f32⟩
  | .hbm, ⟨7, _⟩ => ⟨S128x4, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x128, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S1x128, .f32⟩
  | .hbm, ⟨35, _⟩ => ⟨S16384x128, .f32⟩
  | .hbm, ⟨36, _⟩ => ⟨S16384x128, .f32⟩
  | .hbm, ⟨37, _⟩ => ⟨S16384x256, .f32⟩
  | .hbm, ⟨38, _⟩ => ⟨S16384x128, .f32⟩
  | .hbm, ⟨39, _⟩ => ⟨S16384x128, .f32⟩
  | .hbm, ⟨40, _⟩ => ⟨S1x128, .f32⟩
  | .hbm, ⟨41, _⟩ => ⟨S16384x128, .f32⟩
  | .hbm, ⟨42, _⟩ => ⟨S16384x128, .f32⟩
  | .hbm, ⟨43, _⟩ => ⟨S1x128, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .i1⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x4, .f32⟩
  | .hbm, ⟨61, _⟩ => ⟨S16384x4, .f32⟩
  | .hbm, ⟨62, _⟩ => ⟨S16384x128, .f32⟩
  | .hbm, ⟨63, _⟩ => ⟨S16384x8, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Kernel3.lean ====
abbrev S16384x128 : Shape := ⟨2, ![16384, 128]⟩
abbrev S128 : Shape := ⟨1, ![128]⟩
abbrev S128x128 : Shape := ⟨2, ![128, 128]⟩
abbrev S1x128 : Shape := ⟨2, ![1, 128]⟩
abbrev S2048x128 : Shape := ⟨2, ![2048, 128]⟩

abbrev nBuf : Space → Nat
  | .hbm => 12
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x128 : Shape := ⟨2, ![16384, 128]⟩
abbrev S128 : Shape := ⟨1, ![128]⟩
abbrev S128x128 : Shape := ⟨2, ![128, 128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]
-- ==== Kernel4.lean ====
abbrev S16384x128 : Shape := ⟨2, ![16384, 128]⟩
abbrev S128 : Shape := ⟨1, ![128]⟩
abbrev S128x128 : Shape := ⟨2, ![128, 128]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x128 : Shape := ⟨2, ![16384, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x128, .f32⟩
  | .hbm, ⟨40, _⟩ => ⟨S16384x128, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x128, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel5.lean ====
abbrev S128x128x128 : Shape := ⟨3, ![128, 128, 128]⟩
abbrev S128x128x8 : Shape := ⟨3, ![128, 128, 8]⟩
abbrev S128x4 : Shape := ⟨2, ![128, 4]⟩
abbrev S4x128 : Shape := ⟨2, ![4, 128]⟩
abbrev S4x128x128 : Shape := ⟨3, ![4, 128, 128]⟩
abbrev S128x128 : Shape := ⟨2, ![128, 128]⟩
abbrev S128x16x128 : Shape := ⟨3, ![128, 16, 128]⟩
abbrev S128x16x8 : Shape := ⟨3, ![128, 16, 8]⟩
abbrev S128x1x128 : Shape := ⟨3, ![128, 1, 128]⟩
abbrev S1x128 : Shape := ⟨2, ![1, 128]⟩
abbrev S1x128x128 : Shape := ⟨3, ![1, 128, 128]⟩
abbrev S128x1x1 : Shape := ⟨3, ![128, 1, 1]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S128x128x128, .f32⟩
  | .hbm, ⟨1, _⟩ => ⟨S128x128x128, .f32⟩
  | .hbm, ⟨2, _⟩ => ⟨S128x128x8, .f32⟩
  | .hbm, ⟨3, _⟩ => ⟨S128x4, .f32⟩
  | .hbm, ⟨4, _⟩ => ⟨S128x4, .f32⟩
  | .hbm, ⟨5, _⟩ => ⟨S4x128, .f32⟩
  | .hbm, ⟨6, _⟩ => ⟨S4x128, .f32⟩
  | .hbm, ⟨7, _⟩ => ⟨S4x128x128, .f32⟩
  | .hbm, ⟨8, _⟩ => ⟨S128x128, .f32⟩
  | .local _ .vmem, ⟨0, _⟩ => ⟨S128x16x128, .f32⟩
  | .local _ .vmem, ⟨1, _⟩ => ⟨S128x16x128, .f32⟩
  | .local _ .vmem, ⟨2, _⟩ => ⟨S128x16x128, .f32⟩
  | .local _ .vmem, ⟨3, _⟩ => ⟨S128x16x128, .f32⟩
  | .local _ .vmem, ⟨4, _⟩ => ⟨S128x16x8, .f32⟩
  | .local _ .vmem, ⟨5, _⟩ => ⟨S128x16x8, .f32⟩
  | .local _ .vmem, ⟨6, _⟩ => ⟨S4x128, .f32⟩
  | .local _ .vmem, ⟨7, _⟩ => ⟨S4x128x128, .f32⟩
  | .local _ .vmem, ⟨8, _⟩ => ⟨S128x128, .f32⟩
  | .local _ .vmem, ⟨9, _⟩ => ⟨S4x128x128, .f32⟩
  | .local _ .vmem, ⟨10, _⟩ => ⟨S128x128, .f32⟩
  | _, _ => ⟨S128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1171 : BitVec 1 := Scalar.cmpi .eq arg0 c7_i32
  let v1172 : BitVec 32 := Scalar.extui v1171
  let c0_i32_849 : BitVec 32 := 0#32
  let v1173 : BitVec 1 := Scalar.cmpi .ne v1172 c0_i32_849
  v1173

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S128x128x128 : Shape := ⟨3, ![128, 128, 128]⟩
abbrev S128x128x8 : Shape := ⟨3, ![128, 128, 8]⟩
abbrev S128x4 : Shape := ⟨2, ![128, 4]⟩
abbrev S_ : Shape := ⟨0, ![]⟩
abbrev S128x128x4 : Shape := ⟨3, ![128, 128, 4]⟩
abbrev S128x128 : Shape := ⟨2, ![128, 128]⟩
abbrev S1x128x128 : Shape := ⟨3, ![1, 128, 128]⟩
abbrev S1x128x8 : Shape := ⟨3, ![1, 128, 8]⟩
abbrev S128x8 : Shape := ⟨2, ![128, 8]⟩
abbrev S128x128x1 : Shape := ⟨3, ![128, 128, 1]⟩
abbrev S1x128x4 : Shape := ⟨3, ![1, 128, 4]⟩
abbrev S128x1x4 : Shape := ⟨3, ![128, 1, 4]⟩
abbrev S4x128x128 : Shape := ⟨3, ![4, 128, 128]⟩

abbrev nBuf : Space → Nat
  | .hbm => 53
  | .vmem => 0
  | .smem => 0
  | _ => 0

abbrev bufTy : (tb : Table) → Fin (tcTables nBuf tb) → BufTy
  | .hbm, ⟨0, _⟩ => ⟨S128x128x128, .f32⟩
  | .hbm, ⟨1, _⟩ => ⟨S128x128x128, .f32⟩
  | .hbm, ⟨2, _⟩ => ⟨S128x128x8, .f32⟩
  | .hbm, ⟨3, _⟩ => ⟨S128x4, .f32⟩
  | .hbm, ⟨4, _⟩ => ⟨S128x4, .f32⟩
  | .hbm, ⟨5, _⟩ => ⟨S128x4, .f32⟩
  | .hbm, ⟨6, _⟩ => ⟨S_, .f32⟩
  | .hbm, ⟨7, _⟩ => ⟨S128x128x4, .f32⟩
  | .hbm, ⟨8, _⟩ => ⟨S_, .f32⟩
  | .hbm, ⟨9, _⟩ => ⟨S128x128, .f32⟩
  | .hbm, ⟨10, _⟩ => ⟨S128x128x128, .f32⟩
  | .hbm, ⟨11, _⟩ => ⟨S128x128x128, .f32⟩
  | .hbm, ⟨12, _⟩ => ⟨S128x128x8, .f32⟩
  | .hbm, ⟨13, _⟩ => ⟨S_, .i32⟩
  | .hbm, ⟨14, _⟩ => ⟨S128x128x128, .f32⟩
  | .hbm, ⟨15, _⟩ => ⟨S128x128x128, .f32⟩
  | .hbm, ⟨16, _⟩ => ⟨S128x128x8, .f32⟩
  | .hbm, ⟨17, _⟩ => ⟨S128x4, .f32⟩
  | .hbm, ⟨18, _⟩ => ⟨S_, .i32⟩
  | .hbm, ⟨19, _⟩ => ⟨S128x128x4, .f32⟩
  | .hbm, ⟨20, _⟩ => ⟨S128x128, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x128x128, .f32⟩
  | .hbm, ⟨26, _⟩ => ⟨S128x128, .f32⟩
  | .hbm, ⟨27, _⟩ => ⟨S_, .i32⟩
  | .hbm, ⟨28, _⟩ => ⟨S_, .i32⟩
  | .hbm, ⟨29, _⟩ => ⟨S1x128x128, .f32⟩
  | .hbm, ⟨30, _⟩ => ⟨S128x128, .f32⟩
  | .hbm, ⟨31, _⟩ => ⟨S_, .i32⟩
  | .hbm, ⟨32, _⟩ => ⟨S_, .i32⟩
  | .hbm, ⟨33, _⟩ => ⟨S1x128x8, .f32⟩
  | .hbm, ⟨34, _⟩ => ⟨S128x8, .f32⟩
  | .hbm, ⟨35, _⟩ => ⟨S128x128x1, .f32⟩
  | .hbm, ⟨36, _⟩ => ⟨S1x128x4, .f32⟩
  | .hbm, ⟨37, _⟩ => ⟨S128x128x4, .f32⟩
  | .hbm, ⟨38, _⟩ => ⟨S128x128x4, .f32⟩
  | .hbm, ⟨39, _⟩ => ⟨S128x128x4, .f32⟩
  | .hbm, ⟨40, _⟩ => ⟨S128x128x4, .f32⟩
  | .hbm, ⟨41, _⟩ => ⟨S128x128x4, .f32⟩
  | .hbm, ⟨42, _⟩ => ⟨S128x128x1, .f32⟩
  | .hbm, ⟨43, _⟩ => ⟨S128x4, .f32⟩
  | .hbm, ⟨44, _⟩ => ⟨S128x1x4, .f32⟩
  | .hbm, ⟨45, _⟩ => ⟨S128x128x4, .f32⟩
  | .hbm, ⟨46, _⟩ => ⟨S128x128x4, .f32⟩
  | .hbm, ⟨47, _⟩ => ⟨S128x128x4, .f32⟩
  | .hbm, ⟨48, _⟩ => ⟨S128x128x4, .f32⟩
  | .hbm, ⟨49, _⟩ => ⟨S128x128, .f32⟩
  | .hbm, ⟨50, _⟩ => ⟨S_, .i32⟩
  | .hbm, ⟨51, _⟩ => ⟨S_, .i32⟩
  | .hbm, ⟨52, _⟩ => ⟨S4x128x128, .f32⟩
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_while0c_c_7 : Ref sig .tc := ⟨.hbm, 21, rfl⟩
abbrev main_while0c_v9 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v9 : Ref sig .tc := ⟨.hbm, 26, rfl⟩
abbrev main_while0b_call1_c : Ref sig .tc := ⟨.hbm, 27, rfl⟩
abbrev main_while0b_call1_c_0 : Ref sig .tc := ⟨.hbm, 28, rfl⟩
abbrev main_while0b_call1_v0 : Ref sig .tc := ⟨.hbm, 29, rfl⟩
abbrev main_while0b_v10 : Ref sig .tc := ⟨.hbm, 30, rfl⟩
abbrev main_while0b_call2_c : Ref sig .tc := ⟨.hbm, 31, rfl⟩
abbrev main_while0b_call2_c_0 : Ref sig .tc := ⟨.hbm, 32, rfl⟩
abbrev main_while0b_call2_v0 : Ref sig .tc := ⟨.hbm, 33, rfl⟩
abbrev main_while0b_v11 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_c_7 : Ref sig .tc := ⟨.hbm, 50, rfl⟩
abbrev main_while0b_v27 : Ref sig .tc := ⟨.hbm, 51, rfl⟩
abbrev main_v8 : Ref sig .tc := ⟨.hbm, 52, rfl⟩

abbrev nD : Nat := 1
abbrev τ : Topo := Topo.v7x

variable {F : FTy → Type} [FloatOps F]

abbrev main_while0_count : Scf.Loop 32 := ⟨0#32, 128#32, 1#32⟩
-- ==== Kernel6.lean ====
abbrev S128x128x128 : Shape := ⟨3, ![128, 128, 128]⟩
abbrev S128x128x8 : Shape := ⟨3, ![128, 128, 8]⟩
abbrev S128x4 : Shape := ⟨2, ![128, 4]⟩
abbrev S4x128x128 : Shape := ⟨3, ![4, 128, 128]⟩
abbrev S128x128 : Shape := ⟨2, ![128, 128]⟩
abbrev S4x128 : Shape := ⟨2, ![4, 128]⟩
abbrev S128x16x128 : Shape := ⟨3, ![128, 16, 128]⟩
abbrev S128x16x8 : Shape := ⟨3, ![128, 16, 8]⟩
abbrev S1x128 : Shape := ⟨2, ![1, 128]⟩
abbrev S1x128x128 : Shape := ⟨3, ![1, 128, 128]⟩
abbrev S127x128 : Shape := ⟨2, ![127, 128]⟩
abbrev S2x128 : Shape := ⟨2, ![2, 128]⟩
abbrev S126x128 : Shape := ⟨2, ![126, 128]⟩
abbrev S124x128 : Shape := ⟨2, ![124, 128]⟩
abbrev S8x128 : Shape := ⟨2, ![8, 128]⟩
abbrev S120x128 : Shape := ⟨2, ![120, 128]⟩
abbrev S16x128 : Shape := ⟨2, ![16, 128]⟩
abbrev S112x128 : Shape := ⟨2, ![112, 128]⟩
abbrev S32x128 : Shape := ⟨2, ![32, 128]⟩
abbrev S96x128 : Shape := ⟨2, ![96, 128]⟩
abbrev S64x128 : Shape := ⟨2, ![64, 128]⟩
abbrev S128x1x128 : Shape := ⟨3, ![128, 1, 128]⟩
abbrev S128x1x1 : Shape := ⟨3, ![128, 1, 1]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S128x128x128, .f32⟩
  | .hbm, ⟨1, _⟩ => ⟨S128x128x128, .f32⟩
  | .hbm, ⟨2, _⟩ => ⟨S128x128x8, .f32⟩
  | .hbm, ⟨3, _⟩ => ⟨S128x4, .f32⟩
  | .hbm, ⟨4, _⟩ => ⟨S4x128x128, .f32⟩
  | .hbm, ⟨5, _⟩ => ⟨S128x128, .f32⟩
  | .hbm, ⟨6, _⟩ => ⟨S128x4, .f32⟩
  | .hbm, ⟨7, _⟩ => ⟨S4x128, .f32⟩
  | .hbm, ⟨8, _⟩ => ⟨S4x128, .f32⟩
  | .hbm, ⟨9, _⟩ => ⟨S128x128x128, .f32⟩
  | .local _ .vmem, ⟨0, _⟩ => ⟨S128x16x128, .f32⟩
  | .local _ .vmem, ⟨1, _⟩ => ⟨S128x16x128, .f32⟩
  | .local _ .vmem, ⟨2, _⟩ => ⟨S128x16x128, .f32⟩
  | .local _ .vmem, ⟨3, _⟩ => ⟨S128x16x128, .f32⟩
  | .local _ .vmem, ⟨4, _⟩ => ⟨S128x16x8, .f32⟩
  | .local _ .vmem, ⟨5, _⟩ => ⟨S128x16x8, .f32⟩
  | .local _ .vmem, ⟨6, _⟩ => ⟨S4x128, .f32⟩
  | .local _ .vmem, ⟨7, _⟩ => ⟨S4x128x128, .f32⟩
  | .local _ .vmem, ⟨8, _⟩ => ⟨S128x128, .f32⟩
  | .local _ .vmem, ⟨9, _⟩ => ⟨S128x16x128, .f32⟩
  | .local _ .vmem, ⟨10, _⟩ => ⟨S128x16x128, .f32⟩
  | .local _ .vmem, ⟨11, _⟩ => ⟨S4x128x128, .f32⟩
  | _, _ => ⟨S128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S128x128x128 : Shape := ⟨3, ![128, 128, 128]⟩
abbrev S128x128x8 : Shape := ⟨3, ![128, 128, 8]⟩
abbrev S128x4 : Shape := ⟨2, ![128, 4]⟩
abbrev S4x128x128 : Shape := ⟨3, ![4, 128, 128]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S128x1x128 : Shape := ⟨3, ![128, 1, 128]⟩
abbrev S1x128x128 : Shape := ⟨3, ![1, 128, 128]⟩
abbrev S128x128x1x1 : Shape := ⟨4, ![128, 128, 1, 1]⟩
abbrev S128x128x128x1 : Shape := ⟨4, ![128, 128, 128, 1]⟩
abbrev S1x1x128x4 : Shape := ⟨4, ![1, 1, 128, 4]⟩
abbrev S128x128x128x4 : Shape := ⟨4, ![128, 128, 128, 4]⟩
abbrev S_ : Shape := ⟨0, ![]⟩
abbrev S128x4x128 : Shape := ⟨3, ![128, 4, 128]⟩
abbrev S128x128x4 : Shape := ⟨3, ![128, 128, 4]⟩
abbrev S1x128x8 : Shape := ⟨3, ![1, 128, 8]⟩
abbrev S128x8 : Shape := ⟨2, ![128, 8]⟩
abbrev S128x128x1 : Shape := ⟨3, ![128, 128, 1]⟩
abbrev S1x128x4 : Shape := ⟨3, ![1, 128, 4]⟩
abbrev S128x1x4 : Shape := ⟨3, ![128, 1, 4]⟩

abbrev nBuf : Space → Nat
  | .hbm => 90
  | .vmem => 0
  | .smem => 0
  | _ => 0

abbrev bufTy : (tb : Table) → Fin (tcTables nBuf tb) → BufTy
  | .hbm, ⟨0, _⟩ => ⟨S128x128x128, .f32⟩
  | .hbm, ⟨1, _⟩ => ⟨S128x128x128, .f32⟩
  | .hbm, ⟨2, _⟩ => ⟨S128x128x8, .f32⟩
  | .hbm, ⟨3, _⟩ => ⟨S128x4, .f32⟩
  | .hbm, ⟨4, _⟩ => ⟨S4x128x128, .f32⟩
  | .hbm, ⟨5, _⟩ => ⟨S128x128, .f32⟩
  | .hbm, ⟨6, _⟩ => ⟨S128x4, .f32⟩
  | .hbm, ⟨7, _⟩ => ⟨S128x4, .f32⟩
  | .hbm, ⟨8, _⟩ => ⟨S128, .i32⟩
  | .hbm, ⟨9, _⟩ => ⟨S1x128, .i32⟩
  | .hbm, ⟨10, _⟩ => ⟨S128x1, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x1x128, .i1⟩
  | .hbm, ⟨15, _⟩ => ⟨S128x128, .i1⟩
  | .hbm, ⟨16, _⟩ => ⟨S1x128x128, .i1⟩
  | .hbm, ⟨17, _⟩ => ⟨S128x128x128, .i1⟩
  | .hbm, ⟨18, _⟩ => ⟨S128x128x128, .i1⟩
  | .hbm, ⟨19, _⟩ => ⟨S128x128x128, .i1⟩
  | .hbm, ⟨20, _⟩ => ⟨S128x128x128, .f32⟩
  | .hbm, ⟨21, _⟩ => ⟨S128x128x128, .f32⟩
  | .hbm, ⟨22, _⟩ => ⟨S128x128x1x1, .i1⟩
  | .hbm, ⟨23, _⟩ => ⟨S128x128x128x1, .f32⟩
  | .hbm, ⟨24, _⟩ => ⟨S1x1x128x4, .f32⟩
  | .hbm, ⟨25, _⟩ => ⟨S128x128x128x4, .f32⟩
  | .hbm, ⟨26, _⟩ => ⟨S128x128x128x4, .f32⟩
  | .hbm, ⟨27, _⟩ => ⟨S128x128x128x4, .f32⟩
  | .hbm, ⟨28, _⟩ => ⟨S128x128x128x4, .f32⟩
  | .hbm, ⟨29, _⟩ => ⟨S_, .f32⟩
  | .hbm, ⟨30, _⟩ => ⟨S_, .f32⟩
  | .hbm, ⟨31, _⟩ => ⟨S128x128x128x4, .i1⟩
  | .hbm, ⟨32, _⟩ => ⟨S128x128x128x4, .f32⟩
  | .hbm, ⟨33, _⟩ => ⟨S128x128x128x4, .f32⟩
  | .hbm, ⟨34, _⟩ => ⟨S128x4x128, .f32⟩
  | .hbm, ⟨35, _⟩ => ⟨S128x128x4, .f32⟩
  | .hbm, ⟨36, _⟩ => ⟨S128x128x128, .f32⟩
  | .hbm, ⟨37, _⟩ => ⟨S128x128x128, .f32⟩
  | .hbm, ⟨38, _⟩ => ⟨S128x128x8, .f32⟩
  | .hbm, ⟨39, _⟩ => ⟨S_, .f32⟩
  | .hbm, ⟨40, _⟩ => ⟨S128x128x128, .f32⟩
  | .hbm, ⟨41, _⟩ => ⟨S_, .i32⟩
  | .hbm, ⟨42, _⟩ => ⟨S128x128x128, .f32⟩
  | .hbm, ⟨43, _⟩ => ⟨S128x128x128, .f32⟩
  | .hbm, ⟨44, _⟩ => ⟨S128x128x8, .f32⟩
  | .hbm, ⟨45, _⟩ => ⟨S128x4, .f32⟩
  | .hbm, ⟨46, _⟩ => ⟨S_, .i32⟩
  | .hbm, ⟨47, _⟩ => ⟨S128x128x4, .f32⟩
  | .hbm, ⟨48, _⟩ => ⟨S128x128x128, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S1x128x128, .f32⟩
  | .hbm, ⟨54, _⟩ => ⟨S128x128, .f32⟩
  | .hbm, ⟨55, _⟩ => ⟨S_, .i32⟩
  | .hbm, ⟨56, _⟩ => ⟨S_, .i32⟩
  | .hbm, ⟨57, _⟩ => ⟨S1x128x128, .f32⟩
  | .hbm, ⟨58, _⟩ => ⟨S128x128, .f32⟩
  | .hbm, ⟨59, _⟩ => ⟨S_, .i32⟩
  | .hbm, ⟨60, _⟩ => ⟨S_, .i32⟩
  | .hbm, ⟨61, _⟩ => ⟨S1x128x8, .f32⟩
  | .hbm, ⟨62, _⟩ => ⟨S128x8, .f32⟩
  | .hbm, ⟨63, _⟩ => ⟨S128x128x1, .f32⟩
  | .hbm, ⟨64, _⟩ => ⟨S1x128x4, .f32⟩
  | .hbm, ⟨65, _⟩ => ⟨S128x128x4, .f32⟩
  | .hbm, ⟨66, _⟩ => ⟨S128x128x4, .f32⟩
  | .hbm, ⟨67, _⟩ => ⟨S128x128x4, .f32⟩
  | .hbm, ⟨68, _⟩ => ⟨S128x128x4, .f32⟩
  | .hbm, ⟨69, _⟩ => ⟨S128x128x4, .f32⟩
  | .hbm, ⟨70, _⟩ => ⟨S128x128x1, .f32⟩
  | .hbm, ⟨71, _⟩ => ⟨S128x4, .f32⟩
  | .hbm, ⟨72, _⟩ => ⟨S128x1x4, .f32⟩
  | .hbm, ⟨73, _⟩ => ⟨S128x128x4, .f32⟩
  | .hbm, ⟨74, _⟩ => ⟨S128x128x4, .f32⟩
  | .hbm, ⟨75, _⟩ => ⟨S128x128x4, .f32⟩
  | .hbm, ⟨76, _⟩ => ⟨S128x128x4, .f32⟩
  | .hbm, ⟨77, _⟩ => ⟨S128x4, .f32⟩
  | .hbm, ⟨78, _⟩ => ⟨S128x1x4, .f32⟩
  | .hbm, ⟨79, _⟩ => ⟨S128x128x4, .f32⟩
  | .hbm, ⟨80, _⟩ => ⟨S128x128x4, .f32⟩
  | .hbm, ⟨81, _⟩ => ⟨S_, .f32⟩
  | .hbm, ⟨82, _⟩ => ⟨S128x128, .f32⟩
  | .hbm, ⟨83, _⟩ => ⟨S1x128x128, .f32⟩
  | .hbm, ⟨84, _⟩ => ⟨S_, .i32⟩
  | .hbm, ⟨85, _⟩ => ⟨S_, .i32⟩
  | .hbm, ⟨86, _⟩ => ⟨S128x128x128, .f32⟩
  | .hbm, ⟨87, _⟩ => ⟨S_, .i32⟩
  | .hbm, ⟨88, _⟩ => ⟨S_, .i32⟩
  | .hbm, ⟨89, _⟩ => ⟨S128x128x128, .f32⟩
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_c : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev main_while0c_c_7 : Ref sig .tc := ⟨.hbm, 49, rfl⟩
abbrev main_while0c_v32 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v32 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_v0 : Ref sig .tc := ⟨.hbm, 57, rfl⟩
abbrev main_while0b_v33 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_v0 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_cst_7 : Ref sig .tc := ⟨.hbm, 81, rfl⟩
abbrev main_while0b_v53 : Ref sig .tc := ⟨.hbm, 82, rfl⟩
abbrev main_while0b_call4_v0 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_v54 : Ref sig .tc := ⟨.hbm, 86, rfl⟩
abbrev main_while0b_c_8 : Ref sig .tc := ⟨.hbm, 87, rfl⟩
abbrev main_while0b_v55 : Ref sig .tc := ⟨.hbm, 88, rfl⟩
abbrev main_v31 : Ref sig .tc := ⟨.hbm, 89, rfl⟩

abbrev nD : Nat := 1
abbrev τ : Topo := Topo.v7x

variable {F : FTy → Type} [FloatOps F]

abbrev main_while0_count : Scf.Loop 32 := ⟨0#32, 128#32, 1#32⟩
-- ==== Proof.Spec.lean ====
/- The block attention as plain mathematics over the extended reals: one block of 128 points, their eight raw
   features each, through the two-layer embedding and the row normalisation, then eight heads of softmax attention
   within the block, then the output projection. -/
module

public import Idealize.ShloMosaic.Lib.Pointwise

@[expose] public section

noncomputable section

namespace Cert.Spec

open Idealize.ShloMosaic

/-- A matrix of extended reals. -/
abbrev Mat (a b : ℕ) : Type := (⟨2, ![a, b]⟩ : Shape).Idx → EReal

/-- The number 128 as the programs spell it. -/
def c128 : EReal := Ideal.ofBits .f32 0x43000000#32
/-- The constant under the square root of the normalisation. -/
def eps : EReal := Ideal.ofBits .f32 0x3727C5AC#32
/-- The least value, from which a maximum starts. -/
def low : EReal := Ideal.ofBits .f32 0xFF800000#32

/-- The first layer with its rectifier, at one point. -/
def hid (x : Fin 8 → EReal) (w1 : Mat 8 128) (b1 : Mat 1 128) (j : Fin 128) : EReal :=
  max ((∑ k : Fin 8, x k * w1 (ix2 k j)) + b1 (ix2 0 j)) 0

/-- The two-layer embedding of one point. -/
def emb (x : Fin 8 → EReal) (w1 : Mat 8 128) (b1 : Mat 1 128) (w2 : Mat 128 128) (b2 : Mat 1 128) (j : Fin 128) :
    EReal :=
  (∑ k : Fin 128, hid x w1 b1 k * w2 (ix2 k j)) + b2 (ix2 0 j)

/-- The mean of a row. -/
def mean (h : Fin 128 → EReal) : EReal := Ideal.div (∑ k : Fin 128, h k) c128

/-- The mean squared distance of a row from its mean. -/
def var (h : Fin 128 → EReal) : EReal := Ideal.div (∑ k : Fin 128, (h k - mean h) * (h k - mean h)) c128

/-- A row normalised, scaled and shifted. -/
def normRow (h : Fin 128 → EReal) (g b : Mat 1 128) (j : Fin 128) : EReal :=
  Ideal.div (h j - mean h) (Ideal.sqrt (var h + eps)) * g (ix2 0 j) + b (ix2 0 j)

/-- A row times a matrix. -/
def proj {a b : ℕ} (h : Fin a → EReal) (w : Mat a b) (j : Fin b) : EReal := ∑ k : Fin a, h k * w (ix2 k j)

/-- The score of a query row against a key row. -/
def score (q k : Fin 128 → EReal) : EReal := Ideal.div (∑ d : Fin 128, q d * k d) (Ideal.sqrt c128)

/-- The largest score of a query row. -/
def top (s : Fin 128 → EReal) : EReal := Finset.univ.fold max low s

/-- The unnormalised weight of a score. -/
def wgt (s : Fin 128 → EReal) (j : Fin 128) : EReal := Ideal.exp (s j - top s)

/-- Softmax attention: the values `v` averaged by the weights of the scores `s`. -/
def att (s : Fin 128 → EReal) (v : Fin 128 → EReal) : EReal :=
  ∑ j : Fin 128, Ideal.div (wgt s j) (∑ l : Fin 128, wgt s l) * v j

/-- Column `c` of 1024 as a column of its own head. -/
def col (c : Fin 1024) (d : Fin 128) : Fin 1024 := ⟨128 * (c.val / 128) + d.val, by omega⟩

/-- Attention within a block whose normalised rows are `h`: row `i`, column `c` of the eight heads side by side. -/
def heads (h : Fin 128 → Fin 128 → EReal) (wq wk wv : Mat 128 1024) (i : Fin 128) (c : Fin 1024) : EReal :=
  att (fun j => score (fun d => proj (h i) wq (col c d)) (fun d => proj (h j) wk (col c d)))
    (fun j => proj (h j) wv c)

/-- The block's result: row `i`, column `j`. -/
def block (x : Fin 128 → Fin 8 → EReal) (w1 : Mat 8 128) (b1 : Mat 1 128) (w2 : Mat 128 128) (b2 g b : Mat 1 128)
    (wq wk wv : Mat 128 1024) (wo : Mat 1024 128) (i j : Fin 128) : EReal :=
  proj (heads (fun l => normRow (emb (x l) w1 b1 w2 b2) g b) wq wk wv i) wo j

/-- The points of the block that row `r` of all 16384 lies in. -/
def points (x : Mat 16384 8) (r : Fin 16384) (l : Fin 128) (e : Fin 8) : EReal :=
  x (ix2 ⟨128 * (r.val / 128) + l.val, by omega⟩ e)

/-- The whole result array. -/
def result (x : Mat 16384 8) (w1 : Mat 8 128) (b1 : Mat 1 128) (w2 : Mat 128 128) (b2 g b : Mat 1 128)
    (wq wk wv : Mat 128 1024) (wo : Mat 1024 128) : Mat 16384 128 := fun i =>
  block (points x (i 0)) w1 b1 w2 b2 g b wq wk wv wo ⟨(i 0).val % 128, Nat.mod_lt _ (by decide)⟩ (i 1)

/-- Starting a maximum twice from the same value is starting it once. -/
theorem max_low_top (s : Fin 128 → EReal) : max low (top s) = top s :=
  max_eq_right (Finset.le_fold_max low |>.mpr (Or.inl le_rfl))

end Cert.Spec

end
-- ==== Proof.Rows.lean ====
/- The kernel's row-wise values of one block of 256 points, read at an index: the normalised rows and the three
   projections. -/
module

public import proofs.«01_k».proof.Proof.Gen.KernelIdeal.Frame
public import proofs.«01_k».proof.Proof.Spec

@[expose] public section

noncomputable section

namespace Cert.KernelIdeal.Block

open Idealize.ShloMosaic Cert.KernelIdeal Cert.KernelIdeal.Gen Cert.Spec

set_option maxRecDepth 16384 in
theorem rows_apply (x : Vec Ideal S256x8 .f32) (w1 : Vec Ideal S8x128 .f32) (b1 : Vec Ideal S1x128 .f32)
    (w2 : Vec Ideal S128x128 .f32) (b2 g b : Vec Ideal S1x128 .f32) (r : Fin 256) (j : Fin 128) :
    k0_pay2 x w1 b1 w2 b2 g b (ix2 r j) = normRow (emb (fun e => x (ix2 r e)) w1 b1 w2 b2) g b j := by
  pointwise [k0_pay2]
  simp only [normRow, var, mean, emb, hid, c128, eps]

theorem q_apply (h : FVec Ideal S256x128 .f32) (w : Vec Ideal S128x1024 .f32) (r : Fin 256) (c : Fin 1024) :
    k0_pay3 h w (ix2 r c) = proj (fun d => h (ix2 r d)) w c := by
  pointwise [k0_pay3]
  rfl

theorem k_apply (h : FVec Ideal S256x128 .f32) (w : Vec Ideal S128x1024 .f32) (r : Fin 256) (c : Fin 1024) :
    k0_pay4 h w (ix2 r c) = proj (fun d => h (ix2 r d)) w c := by
  pointwise [k0_pay4]
  rfl

theorem v_apply (h : FVec Ideal S256x128 .f32) (w : Vec Ideal S128x1024 .f32) (r : Fin 256) (c : Fin 1024) :
    k0_pay5 h w (ix2 r c) = proj (fun d => h (ix2 r d)) w c := by
  pointwise [k0_pay5]
  rfl

end Cert.KernelIdeal.Block

end
-- ==== Proof.Head.lean ====
/- One head of one block of 128 rows, as the kernel computes it from the 256 rows' projections. -/
module

public import proofs.«01_k».proof.Proof.Gen.KernelIdeal.Frame
public import proofs.«01_k».proof.Proof.Spec
public import Idealize.ShloMosaic.Lib.IdealHost

@[expose] public section

noncomputable section

namespace Cert.KernelIdeal.Block

open Idealize.ShloMosaic Cert.KernelIdeal Cert.KernelIdeal.Gen Cert.Spec

/-- Softmax attention of 128 query rows against 128 key rows, the scores multiplied by `z`. -/
def headOf (q k v : FVec Ideal S128x128 .f32) (z : Ideal .f32) : FVec Ideal S128x128 .f32 :=
  let s := mulf (matmul dot_S128x128_S128x128_S128x128_1_1_0_0_n_n none q k (constant S128x128 .f32 0x00000000#32))
    (broadcast S128x128 z)
  let p := exp (subf s (broadcastTo S128x128 (shapeCast S128x1
    (multiReduction .maximumf [1] S128 s 0xFF800000#32 reduces_S128x128_S128 (.inl rfl) rfl)
    shapeCasts_S128_S128x1) broadcasts_S128x1_S128x128))
  matmul dot_S128x128_S128x128_S128x128_1_0_0_1_n_n none
    (divf p (broadcastTo S128x128 (shapeCast S128x1
      (multiReduction .add [1] S128 p 0x00000000#32 reduces_S128x128_S128 (.inl rfl) rfl)
      shapeCasts_S128_S128x1) broadcasts_S128x1_S128x128))
    v (constant S128x128 .f32 0x00000000#32)

theorem c128_eq : c128 = ((128 : ℝ) : EReal) := by
  simp [c128, Ideal.ofBits, Ideal.ieee, -EReal.coe_mul]
  norm_num

theorem sqrt_c128_ne_zero : Ideal.sqrt c128 ≠ 0 := by
  rw [c128_eq, Ideal.sqrt_coe, if_neg (by norm_num)]
  exact EReal.coe_ne_zero.mpr (Real.sqrt_ne_zero'.mpr (by norm_num))

/-- The scale is the reciprocal of the square root of 128, so multiplying by it is dividing by that root. -/
theorem mul_scale (a : EReal) : a * k0_pay6 (F := Ideal) = Ideal.div a (Ideal.sqrt c128) := by
  have h : k0_pay6 (F := Ideal) = Ideal.div (Ideal.ofBits .f32 0x3F800000#32) (Ideal.sqrt c128) := rfl
  rw [h, Ideal.ofBits_one_f32]
  exact Ideal.mul_one_div sqrt_c128_ne_zero

set_option maxRecDepth 16384 in
theorem headOf_apply (q k v : FVec Ideal S128x128 .f32) (i d : Fin 128) :
    headOf q k v (k0_pay6 (F := Ideal)) (ix2 i d)
      = att (fun j => score (fun e => q (ix2 i e)) (fun e => k (ix2 j e))) (fun j => v (ix2 j d)) := by
  pointwise [headOf]
  simp only [att, wgt, top, score, mul_scale, low]

end Cert.KernelIdeal.Block

end
-- ==== Proof.Block.lean ====
/- The kernel's body at one grid point: two blocks of 128 rows, eight heads each, stored side by side and projected. -/
module

public import proofs.«01_k».proof.Proof.Rows
public import proofs.«01_k».proof.Proof.Head
public import Idealize.ShloMosaic.Lib.Pipeline.ValueKit

@[expose] public section

noncomputable section

namespace Cert.KernelIdeal.Block

open Idealize.ShloMosaic Cert.KernelIdeal Cert.KernelIdeal.Gen Cert.Spec

theorem slices (b : Fin 2) (n : Fin 8) :
    S256x1024.Slices ![128 * b.val, 128 * n.val] S128x128 := by
  revert b n; decide

/-- Head `n` of block `b`. -/
def headAt (q k v : FVec Ideal S256x1024 .f32) (b : Fin 2) (n : Fin 8) : FVec Ideal S128x128 .f32 :=
  headOf (extractStridedSlice S128x128 ![128 * b.val, 128 * n.val] q (slices b n))
    (extractStridedSlice S128x128 ![128 * b.val, 128 * n.val] k (slices b n))
    (extractStridedSlice S128x128 ![128 * b.val, 128 * n.val] v (slices b n)) (k0_pay6 (F := Ideal))

/-- The eight heads of block `b` side by side. -/
def sideBySide (q k v : FVec Ideal S256x1024 .f32) (b : Fin 2) : FVec Ideal S128x1024 .f32 :=
  concatenate S128x1024 1 (List.ofFn fun n : Fin 8 => ⟨S128x128, headAt q k v b n⟩)
    concatenates_S128x128_S128x128_S128x128_S128x128_S128x128_S128x128_S128x128_S128x128_S128x1024_d1

/-- The two blocks one under the other. -/
def both (q k v : FVec Ideal S256x1024 .f32) : FVec Ideal S256x1024 .f32 :=
  concatenate S256x1024 0 [⟨S128x1024, sideBySide q k v 0⟩, ⟨S128x1024, sideBySide q k v 1⟩]
    concatenates_S128x1024_S128x1024_S256x1024_d0

theorem headAt_apply (q k v : FVec Ideal S256x1024 .f32) (b : Fin 2) (n : Fin 8) (i d : Fin 128) :
    headAt q k v b n (ix2 i d) =
      att (fun j => score (fun e => q (ix2 ⟨128 * b.val + i.val, by omega⟩ ⟨128 * n.val + e.val, by omega⟩))
          (fun e => k (ix2 ⟨128 * b.val + j.val, by omega⟩ ⟨128 * n.val + e.val, by omega⟩)))
        (fun j => v (ix2 ⟨128 * b.val + j.val, by omega⟩ ⟨128 * n.val + d.val, by omega⟩)) := by
  rw [headAt, headOf_apply]
  pointwise

theorem sideBySide_apply (q k v : FVec Ideal S256x1024 .f32) (b : Fin 2) (i : Fin 128) (c : Fin 1024) :
    sideBySide q k v b (ix2 i c) =
      headAt q k v b ⟨c.val / 128, by omega⟩ (ix2 i ⟨c.val % 128, Nat.mod_lt _ (by decide)⟩) := by
  refine concatenate_ofFn_apply (t := S128x1024) (1 : Fin 2) (fun n : Fin 8 => headAt q k v b n) _ rfl 128 rfl (ix2 i c) ⟨c.val / 128, by omega⟩
    rfl _ rfl fun a ha => ?_
  match a with
  | ⟨0, _⟩ => rfl
  | ⟨1, _⟩ => exact absurd rfl ha

theorem both_apply (q k v : FVec Ideal S256x1024 .f32) (r : Fin 256) (c : Fin 1024) :
    both q k v (ix2 r c) =
      sideBySide q k v ⟨r.val / 128, by omega⟩ (ix2 ⟨r.val % 128, Nat.mod_lt _ (by decide)⟩ c) := by
  have h : both q k v = concatenate S256x1024 0 (List.ofFn fun b : Fin 2 => ⟨S128x1024, sideBySide q k v b⟩)
      concatenates_S128x1024_S128x1024_S256x1024_d0 := rfl
  rw [h]
  refine concatenate_ofFn_apply (t := S256x1024) (0 : Fin 2) (fun b : Fin 2 => sideBySide q k v b) _ rfl 128 rfl (ix2 r c) ⟨r.val / 128, by omega⟩
    rfl _ rfl fun a ha => ?_
  match a with
  | ⟨0, _⟩ => exact absurd rfl ha
  | ⟨1, _⟩ => rfl

/-- What the body stores is the two blocks' heads times the output matrix. -/
theorem stored (h : FVec Ideal S256x128 .f32) (wq wk wv : Vec Ideal S128x1024 .f32) (wo : Vec Ideal S1024x128 .f32) :
    k0_pay1 (k0_pay3 h wq) (k0_pay4 h wk) (k0_pay5 h wv) (k0_pay6 (F := Ideal))
      (k0_pay14 (k0_pay3 h wq) (k0_pay4 h wk) (k0_pay5 h wv) (k0_pay6 (F := Ideal)) (k0_pay7 h wq wk wv) (k0_pay8 h wq wk wv)
        (k0_pay10 (k0_pay4 h wk) (k0_pay5 h wv) (k0_pay6 (F := Ideal)) (k0_pay9 h wq))
        (k0_pay11 (k0_pay3 h wq) (k0_pay4 h wk) (k0_pay5 h wv) (k0_pay6 (F := Ideal)))
        (k0_pay12 (k0_pay3 h wq) (k0_pay4 h wk) (k0_pay5 h wv) (k0_pay6 (F := Ideal)))
        (k0_pay13 (k0_pay3 h wq)))
      (k0_pay15 (k0_pay3 h wq) (k0_pay4 h wk) (k0_pay5 h wv) (k0_pay6 (F := Ideal)))
      (k0_pay16 (k0_pay3 h wq) (k0_pay4 h wk) (k0_pay5 h wv) (k0_pay6 (F := Ideal)))
      (k0_pay17 (k0_pay3 h wq) (k0_pay4 h wk) (k0_pay5 h wv) (k0_pay6 (F := Ideal)))
      (k0_pay18 (k0_pay3 h wq) (k0_pay4 h wk) (k0_pay5 h wv) (k0_pay6 (F := Ideal)))
      (k0_pay19 (k0_pay3 h wq) (k0_pay4 h wk) (k0_pay5 h wv) (k0_pay6 (F := Ideal)))
      (k0_pay20 (k0_pay3 h wq) (k0_pay4 h wk) (k0_pay5 h wv) (k0_pay6 (F := Ideal))) wo
    = matmul (φ₂ := .f32) dot_S256x1024_S1024x128_S256x128_1_0_0_1_n_n none (both (k0_pay3 h wq) (k0_pay4 h wk) (k0_pay5 h wv)) wo
        (constant S256x128 .f32 0x00000000#32) := rfl

end Cert.KernelIdeal.Block

end
-- ==== Proof.Array.lean ====
/- The kernel's result array after the run: the plain mathematics of Spec, at every index. -/
module

public import proofs.«01_k».proof.Proof.Block
public import proofs.«01_k».proof.Proof.Gen.KernelIdeal.Value

@[expose] public section

set_option maxRecDepth 16384

noncomputable section

namespace Cert.KernelIdeal.Block

open Idealize.ShloMosaic Idealize.ShloMosaic.TcCoe Cert.KernelIdeal Cert.KernelIdeal.Gen Cert.Spec

/-- What one grid point computes from its 256 rows, at row `r` and column `j`: row `r % 128` of its own block. -/
theorem point_apply (x : Vec Ideal S256x8 .f32) (w1 : Vec Ideal S8x128 .f32) (b1 : Vec Ideal S1x128 .f32)
    (w2 : Vec Ideal S128x128 .f32) (b2 g b : Vec Ideal S1x128 .f32) (wq wk wv : Vec Ideal S128x1024 .f32)
    (wo : Vec Ideal S1024x128 .f32) (r : Fin 256) (j : Fin 128) :
    out0_11 x w1 b1 w2 b2 g b wq wk wv wo (ix2 r j) =
      block (fun l e => x (ix2 ⟨128 * (r.val / 128) + l.val, by omega⟩ e)) w1 b1 w2 b2 g b wq wk wv wo
        ⟨r.val % 128, Nat.mod_lt _ (by decide)⟩ j := by
  frame_out
  have h := stored (k0_pay2 x w1 b1 w2 b2 g b) wq wk wv wo
  simp only [k0_pay24, k0_pay23, k0_pay22, k0_pay21]
  frame_out
  rw [h]
  clear h
  generalize hh : k0_pay2 x w1 b1 w2 b2 g b = n
  generalize hq : k0_pay3 n wq = q
  generalize hk : k0_pay4 n wk = k
  generalize hv : k0_pay5 n wv = v
  pointwise
  simp only [both_apply, sideBySide_apply, headAt_apply]
  subst hq hk hv hh
  simp only [q_apply, k_apply, v_apply, rows_apply]
  rw [block, proj]
  refine Finset.sum_congr rfl fun c _ => ?_
  have hc : (⟨128 * (c.val / 128) + c.val % 128, by omega⟩ : Fin 1024) = c := Fin.ext (by simp only; omega)
  simp only [hc]
  rfl

variable (m : (ℓ : Loc nD τ sig) → Buf (Elt Ideal) ℓ) (c : Dev nD)

/-- Which block each window reads or writes at grid point `t`. -/
theorem places : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] := by decide +kernel

theorem read_x (t : Fin cfg0.N) (r : Fin 256) (e : Fin 8) (h : 256 * t.val + r.val < 16384) :
    (iblk m c 0 t : Vec Ideal S256x8 .f32) (ix2 r e) = (m ((c : Thread nD τ).loc main_arg0) : Mat 16384 8) (ix2 ⟨256 * t.val + r.val, h⟩ e) := by
  blk_ext [iblk, V, places t]

theorem read_w1 (t : Fin cfg0.N) : (iblk m c 1 t : Vec Ideal S8x128 .f32) = m ((c : Thread nD τ).loc main_arg1) := by
  funext y
  blk_ext [iblk, V, places t]

theorem read_b1 (t : Fin cfg0.N) : (iblk m c 2 t : Vec Ideal S1x128 .f32) = m ((c : Thread nD τ).loc main_arg2) := by
  funext y
  blk_ext [iblk, V, places t]

theorem read_w2 (t : Fin cfg0.N) : (iblk m c 3 t : Vec Ideal S128x128 .f32) = m ((c : Thread nD τ).loc main_arg3) := by
  funext y
  blk_ext [iblk, V, places t]

theorem read_b2 (t : Fin cfg0.N) : (iblk m c 4 t : Vec Ideal S1x128 .f32) = m ((c : Thread nD τ).loc main_arg4) := by
  funext y
  blk_ext [iblk, V, places t]

theorem read_g (t : Fin cfg0.N) : (iblk m c 5 t : Vec Ideal S1x128 .f32) = m ((c : Thread nD τ).loc main_arg5) := by
  funext y
  blk_ext [iblk, V, places t]

theorem read_b (t : Fin cfg0.N) : (iblk m c 6 t : Vec Ideal S1x128 .f32) = m ((c : Thread nD τ).loc main_arg6) := by
  funext y
  blk_ext [iblk, V, places t]

theorem read_wq (t : Fin cfg0.N) : (iblk m c 7 t : Vec Ideal S128x1024 .f32) = m ((c : Thread nD τ).loc main_arg7) := by
  funext y
  blk_ext [iblk, V, places t]

theorem read_wk (t : Fin cfg0.N) : (iblk m c 8 t : Vec Ideal S128x1024 .f32) = m ((c : Thread nD τ).loc main_arg8) := by
  funext y
  blk_ext [iblk, V, places t]

theorem read_wv (t : Fin cfg0.N) : (iblk m c 9 t : Vec Ideal S128x1024 .f32) = m ((c : Thread nD τ).loc main_arg9) := by
  funext y
  blk_ext [iblk, V, places t]

theorem read_wo (t : Fin cfg0.N) : (iblk m c 10 t : Vec Ideal S1024x128 .f32) = m ((c : Thread nD τ).loc main_arg10) := by
  funext y
  blk_ext [iblk, V, places t]

/-- Where the element at row `r`, column `j` of point `t`'s output block lies in the whole array. -/
theorem place (t : Fin cfg0.N) (r : Fin 256) (j : Fin 128) (h : 256 * t.val + r.val < 16384) :
    (win0_11.blk t).view.emb (ix2 r j) = ix2 ⟨256 * t.val + r.val, h⟩ j := by
  blk_ext [places t]

/-- The result array after the run. -/
theorem array_eq :
    (dats m 0 c).arrAt 11 cfg0.N =
      result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  obtain ⟨r, j, rfl⟩ : ∃ (r : Fin 256) (j : Fin 128), y = ix2 r j := ⟨y 0, y 1, eq_ix2 y⟩
  have ht : t.val < 64 := t.isLt
  have h : 256 * t.val + r.val < 16384 := by omega
  rw [place t r j h, read_w1, read_b1, read_w2, read_b2, read_g, read_b, read_wq, read_wk, read_wv, read_wo]
  refine (point_apply _ _ _ _ _ _ _ _ _ _ _ r j).trans ?_
  have hx : (fun (l : Fin 128) (e : Fin 8) => (iblk m c 0 t : Vec Ideal S256x8 .f32) (ix2 ⟨128 * (r.val / 128) + l.val, by omega⟩ e))
      = points (m ((c : Thread nD τ).loc main_arg0)) ⟨256 * t.val + r.val, h⟩ := by
    funext l e
    rw [read_x m c t _ e (by simp only; omega), points]
    congr 2
    exact Fin.ext (by simp only; omega)
  have hr : (⟨r.val % 128, Nat.mod_lt _ (by decide)⟩ : Fin 128)
      = ⟨(256 * t.val + r.val) % 128, Nat.mod_lt _ (by decide)⟩ := Fin.ext (by simp only; omega)
  rw [hx, hr]
  rfl

end Cert.KernelIdeal.Block

end
-- ==== Proof.RefValue.lean ====
/- The reference's result read at an index: the plain mathematics of Spec. -/
module

public import proofs.«01_k».proof.Proof.Gen.ReferenceIdeal.Read
public import proofs.«01_k».proof.Proof.Spec

@[expose] public section

set_option maxRecDepth 16384

noncomputable section

namespace Cert.ReferenceIdeal.Plain

open Idealize.ShloMosaic Cert.ReferenceIdeal Cert.ReferenceIdeal.Read Cert.Spec

variable (x0 : Mat 16384 8) (x1 : Mat 8 128) (x2 : Mat 1 128) (x3 : Mat 128 128) (x4 x5 x6 : Mat 1 128)
  (x7 x8 x9 : Mat 128 1024) (x10 : Mat 1024 128)

theorem emb_apply (r : Fin 16384) (j : Fin 128) :
    val_main_v6 (F := Ideal) x0 x1 x2 x3 x4 (ix2 r j) = emb (fun e => x0 (ix2 r e)) x1 x2 x3 x4 j := by
  pointwise [val_main_v6, val_main_v5, val_main_v4, val_main_v3, val_main_v2, val_main_v1, val_main_v0,
    val_main_call0_v0, val_main_call0_cst]
  simp only [emb, hid]

theorem norm_apply (r : Fin 16384) (j : Fin 128) :
    val_main_v28 (F := Ideal) x0 x1 x2 x3 x4 x5 x6 (ix2 r j)
      = normRow (emb (fun e => x0 (ix2 r e)) x1 x2 x3 x4) x5 x6 j := by
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_cst, val_main_cst_0,
    val_main_cst_1, val_main_cst_2, val_main_cst_3]
  simp only [emb_apply]
  simp only [normRow, var, mean, c128, eps]

/-- The normalised row of point `r`. -/
abbrev row (r : Fin 16384) : Fin 128 → EReal := normRow (emb (fun e => x0 (ix2 r e)) x1 x2 x3 x4) x5 x6

theorem q_apply (b : Fin 128) (n : Fin 8) (i d : Fin 128) :
    val_main_v33 (F := Ideal) x0 x1 x2 x3 x4 x5 x6 x7 (ix4 b n i d)
      = proj (row x0 x1 x2 x3 x4 x5 x6 ⟨128 * b.val + i.val, by omega⟩) x7 ⟨128 * n.val + d.val, by omega⟩ := by
  pointwise [val_main_v33, val_main_v32, val_main_v29]
  simp only [norm_apply, proj, Nat.mul_comm _ 128]

theorem k_apply (b : Fin 128) (n : Fin 8) (i d : Fin 128) :
    val_main_v35 (F := Ideal) x0 x1 x2 x3 x4 x5 x6 x8 (ix4 b n i d)
      = proj (row x0 x1 x2 x3 x4 x5 x6 ⟨128 * b.val + i.val, by omega⟩) x8 ⟨128 * n.val + d.val, by omega⟩ :=
  q_apply x0 x1 x2 x3 x4 x5 x6 x8 b n i d

theorem v_apply (b : Fin 128) (n : Fin 8) (i d : Fin 128) :
    val_main_v37 (F := Ideal) x0 x1 x2 x3 x4 x5 x6 x9 (ix4 b n i d)
      = proj (row x0 x1 x2 x3 x4 x5 x6 ⟨128 * b.val + i.val, by omega⟩) x9 ⟨128 * n.val + d.val, by omega⟩ :=
  q_apply x0 x1 x2 x3 x4 x5 x6 x9 b n i d

theorem score_apply (b : Fin 128) (n : Fin 8) (i j : Fin 128) :
    val_main_v41 (F := Ideal) x0 x1 x2 x3 x4 x5 x6 x7 x8 (ix4 b n i j)
      = score (fun d => val_main_v33 (F := Ideal) x0 x1 x2 x3 x4 x5 x6 x7 (ix4 b n i d))
          (fun d => val_main_v35 (F := Ideal) x0 x1 x2 x3 x4 x5 x6 x8 (ix4 b n j d)) := by
  pointwise [val_main_v41, val_main_v40, val_main_v39, val_main_v38, val_main_cst_4]
  simp only [score, c128]

theorem max_apply (b : Fin 128) (n : Fin 8) (i : Fin 128) :
    val_main_v42 (F := Ideal) x0 x1 x2 x3 x4 x5 x6 x7 x8 (ix3 b n i)
      = top (fun j => val_main_v41 (F := Ideal) x0 x1 x2 x3 x4 x5 x6 x7 x8 (ix4 b n i j)) := by
  unfold val_main_v42
  generalize val_main_v41 (F := Ideal) x0 x1 x2 x3 x4 x5 x6 x7 x8 = y
  pointwise [val_main_cst_5]
  simp only [top, low]

theorem top_apply (b : Fin 128) (n : Fin 8) (i : Fin 128) :
    val_main_v44 (F := Ideal) x0 x1 x2 x3 x4 x5 x6 x7 x8 (ix3 b n i)
      = top (fun j => val_main_v41 (F := Ideal) x0 x1 x2 x3 x4 x5 x6 x7 x8 (ix4 b n i j)) := by
  rw [← max_low_top, ← max_apply]
  rw [val_main_v44_apply, val_main_v43_apply, val_main_cst_6_apply]
  generalize val_main_v42 (F := Ideal) x0 x1 x2 x3 x4 x5 x6 x7 x8 (ix3 b n i) = y
  rfl

theorem wgt_apply (b : Fin 128) (n : Fin 8) (i j : Fin 128) :
    val_main_v48 (F := Ideal) x0 x1 x2 x3 x4 x5 x6 x7 x8 (ix4 b n i j)
      = wgt (fun j => val_main_v41 (F := Ideal) x0 x1 x2 x3 x4 x5 x6 x7 x8 (ix4 b n i j)) j := by
  pointwise [val_main_v48, val_main_v47, val_main_v46, val_main_v45]
  simp only [top_apply, wgt]

theorem att_apply (b : Fin 128) (n : Fin 8) (i d : Fin 128) :
    val_main_v53 (F := Ideal) x0 x1 x2 x3 x4 x5 x6 x7 x8 x9 (ix4 b n i d)
      = att (fun j => val_main_v41 (F := Ideal) x0 x1 x2 x3 x4 x5 x6 x7 x8 (ix4 b n i j))
          (fun j => val_main_v37 (F := Ideal) x0 x1 x2 x3 x4 x5 x6 x9 (ix4 b n j d)) := by
  pointwise [val_main_v53, val_main_v52, val_main_v51, val_main_v50, val_main_v49, val_main_cst_7]
  simp only [wgt_apply, att]

theorem heads_apply (r : Fin 16384) (c : Fin 1024) :
    val_main_v55 (F := Ideal) x0 x1 x2 x3 x4 x5 x6 x7 x8 x9 (ix2 r c)
      = heads (fun l => normRow (emb (points x0 r l) x1 x2 x3 x4) x5 x6) x7 x8 x9
          ⟨r.val % 128, Nat.mod_lt _ (by decide)⟩ c := by
  pointwise [val_main_v55, val_main_v54]
  simp only [att_apply, score_apply, q_apply, k_apply, v_apply]
  have hc : (⟨128 * (c.val / 128) + c.val % 128, by omega⟩ : Fin 1024) = c := Fin.ext (by simp only; omega)
  simp only [heads, col, hc]
  rfl

/-- The reference's result is the plain mathematics. -/
theorem result_eq :
    val_main_v56 (F := Ideal) x0 x1 x2 x3 x4 x5 x6 x7 x8 x9 x10 = result x0 x1 x2 x3 x4 x5 x6 x7 x8 x9 x10 := by
  funext i
  idx_vars i
  pointwise [val_main_v56]
  simp only [heads_apply, result, block, proj]
  rfl

end Cert.ReferenceIdeal.Plain

end
-- ==== Proof.MixerSpec.lean ====
/- A mixer layer before and after its scan as plain mathematics over the extended reals, one row at a time: the
   normalised row through the input projection to the mixed and the gating half, the step size, the input and output
   couplings of the state; then the gated sum with the scan's rows through the output projection, added to the row. -/
module

public import proofs.«01_k».proof.Proof.Spec

@[expose] public section

noncomputable section

namespace Cert.Spec

open Idealize.ShloMosaic

/-- A vector of extended reals. -/
abbrev Row (a : ℕ) : Type := (⟨1, ![a]⟩ : Shape).Idx → EReal

/-- A vector as a matrix of one row. -/
def asRow {a : ℕ} (v : Row a) : Mat 1 a := fun i => v (ix1 (i 1))

theorem asRow_apply {a : ℕ} (v : Row a) (j : Fin a) : asRow v (ix2 0 j) = v (ix1 j) := rfl

/-- A row normalised and projected to the two halves side by side. -/
def halves (x : Fin 128 → EReal) (g b : Row 128) (w : Mat 128 256) (c : Fin 256) : EReal :=
  proj (normRow x (asRow g) (asRow b)) w c

/-- The mixed half. -/
def mixed (x : Fin 128 → EReal) (g b : Row 128) (w : Mat 128 256) (j : Fin 128) : EReal :=
  halves x g b w ⟨j.val, by omega⟩

/-- The gating half. -/
def gate (x : Fin 128 → EReal) (g b : Row 128) (w : Mat 128 256) (j : Fin 128) : EReal :=
  halves x g b w ⟨128 + j.val, by omega⟩

/-- The logarithm of one plus the exponential, in the form that does not overflow. -/
def softplus (p : EReal) : EReal := max p 0 + Ideal.log1p (Ideal.exp (-(max p (-p))))

/-- The step size. -/
def step (x : Fin 128 → EReal) (g b : Row 128) (w : Mat 128 256) (wd bd : Row 128) (j : Fin 128) : EReal :=
  softplus (mixed x g b w j * wd (ix1 j) + bd (ix1 j))

/-- The couplings of a row: four into the state, then four out of it. -/
def coupling (x : Fin 128 → EReal) (g b : Row 128) (w : Mat 128 256) (wi wo : Mat 128 4) (j : Fin 8) : EReal :=
  if h : j.val < 4 then proj (mixed x g b w) wi ⟨j.val, h⟩ else proj (mixed x g b w) wo ⟨j.val - 4, by omega⟩

/-- A number times its logistic. -/
def silu (z : EReal) : EReal := z * Ideal.div 1 (1 + Ideal.exp (-z))

/-- The layer's result row before any last normalisation, from the scan's row `s`, the two halves and the row `r`. -/
def out (s x z r : Fin 128 → EReal) (d : Row 128) (w : Mat 128 128) (j : Fin 128) : EReal :=
  proj (fun k => (s k + d (ix1 k) * x k) * silu (z k)) w j + r j

/-- Row `r` of a matrix. -/
def rowOf {a b : ℕ} (m : Mat a b) (r : Fin a) : Fin b → EReal := fun k => m (ix2 r k)

/-- The result array of a layer that is not the last. -/
def outs (s x z r : Mat 16384 128) (d : Row 128) (w : Mat 128 128) : Mat 16384 128 := fun i =>
  out (rowOf s (i 0)) (rowOf x (i 0)) (rowOf z (i 0)) (rowOf r (i 0)) d w (i 1)

/-- The result array of the last layer: its rows normalised. -/
def lasts (s x z r : Mat 16384 128) (d : Row 128) (w : Mat 128 128) (g b : Row 128) : Mat 16384 128 := fun i =>
  normRow (out (rowOf s (i 0)) (rowOf x (i 0)) (rowOf z (i 0)) (rowOf r (i 0)) d w) (asRow g) (asRow b) (i 1)

theorem lasts_apply (s x z r : Mat 16384 128) (d : Row 128) (w : Mat 128 128) (g b : Row 128) (i : Fin 16384)
    (j : Fin 128) : lasts s x z r d w g b (ix2 i j)
      = normRow (out (rowOf s i) (rowOf x i) (rowOf z i) (rowOf r i) d w) (asRow g) (asRow b) j := rfl

/-- The step sizes of all rows. -/
def steps (x : Mat 16384 128) (g b : Row 128) (w : Mat 128 256) (wd bd : Row 128) : Mat 16384 128 := fun i =>
  step (rowOf x (i 0)) g b w wd bd (i 1)

/-- The mixed halves of all rows. -/
def mixeds (x : Mat 16384 128) (g b : Row 128) (w : Mat 128 256) : Mat 16384 128 := fun i =>
  mixed (rowOf x (i 0)) g b w (i 1)

/-- The gating halves of all rows. -/
def gates (x : Mat 16384 128) (g b : Row 128) (w : Mat 128 256) : Mat 16384 128 := fun i =>
  gate (rowOf x (i 0)) g b w (i 1)

/-- The step sizes times the mixed halves. -/
def drives (x : Mat 16384 128) (g b : Row 128) (w : Mat 128 256) (wd bd : Row 128) : Mat 16384 128 := fun i =>
  steps x g b w wd bd i * mixeds x g b w i

/-- The couplings of all rows. -/
def couplings (x : Mat 16384 128) (g b : Row 128) (w : Mat 128 256) (wi wo : Mat 128 4) : Mat 16384 8 := fun i =>
  coupling (rowOf x (i 0)) g b w wi wo (i 1)

/-- The exponential is not negative. -/
theorem exp_nonneg (x : EReal) : 0 ≤ Ideal.exp x := by
  induction x using EReal.rec with
  | bot => simp
  | top => simp
  | coe r => simpa using (Real.exp_pos r).le

/-- A number over one plus the exponential of its negative is the number times its logistic. -/
theorem div_eq_silu (z : EReal) : Ideal.div z (1 + Ideal.exp (-z)) = silu z := by
  refine (Ideal.mul_one_div (ne_of_gt ?_)).symm
  exact lt_of_lt_of_le zero_lt_one (le_add_of_nonneg_right (exp_nonneg _))

end Cert.Spec

end
-- ==== Proof.Prep.lean ====
/- The call before a scan: what one grid point computes from its 2048 rows. -/
module

public import proofs.«01_k».proof.Proof.MixerSpec
public import proofs.«01_k».proof.Proof.Gen.Kernel2Ideal.Value
public import Idealize.ShloMosaic.Lib.Pipeline.ValueKit

@[expose] public section

set_option maxRecDepth 16384

noncomputable section

namespace Cert.Kernel2Ideal.Block

open Idealize.ShloMosaic Idealize.ShloMosaic.TcCoe Cert.Kernel2Ideal Cert.Kernel2Ideal.Gen Cert.Spec

variable (x : Vec Ideal S2048x128 .f32) (g b : Row 128) (w : Vec Ideal S128x256 .f32) (l : Fin 2048)

/-- The projected rows. -/
theorem halves_apply (c : Fin 256) :
    k0_pay4 x (asRow g : Vec Ideal S1x128 .f32) (asRow b : Vec Ideal S1x128 .f32) w (ix2 l c) = halves (rowOf x l) g b w c := by
  pointwise [k0_pay4]
  simp only [halves, proj, normRow, var, mean, c128, eps, rowOf]

theorem mixed_apply (j : Fin 128) :
    k0_pay5 x (asRow g : Vec Ideal S1x128 .f32) (asRow b : Vec Ideal S1x128 .f32) w (ix2 l j) = mixed (rowOf x l) g b w j := by
  pointwise [k0_pay5]
  simp only [halves_apply, mixed]

theorem gate_apply (j : Fin 128) :
    k0_pay6 x (asRow g : Vec Ideal S1x128 .f32) (asRow b : Vec Ideal S1x128 .f32) w (ix2 l j) = gate (rowOf x l) g b w j := by
  pointwise [k0_pay6]
  simp only [halves_apply, gate]

variable (wd bd : Row 128) (wc : Vec Ideal S128x8 .f32)

/-- The argument of the step size. -/
theorem pre_apply (j : Fin 128) :
    k0_pay7 x (asRow g : Vec Ideal S1x128 .f32) (asRow b : Vec Ideal S1x128 .f32) w (asRow wd : Vec Ideal S1x128 .f32)
      (asRow bd : Vec Ideal S1x128 .f32) (ix2 l j) = mixed (rowOf x l) g b w j * wd (ix1 j) + bd (ix1 j) := by
  pointwise [k0_pay7]
  simp only [mixed_apply, asRow_apply]

theorem step_apply (j : Fin 128) :
    k0_pay1 (k0_pay7 x (asRow g : Vec Ideal S1x128 .f32) (asRow b : Vec Ideal S1x128 .f32) w
      (asRow wd : Vec Ideal S1x128 .f32) (asRow bd : Vec Ideal S1x128 .f32)) (k0_pay8 (F := Ideal)) (ix2 l j)
      = step (rowOf x l) g b w wd bd j := by
  pointwise [k0_pay1, k0_pay8]
  simp only [pre_apply, zero_sub, step, softplus]
  rfl

variable (g' b' wd' bd' : Vec Ideal S1x128 .f32) (hg : g' = asRow g) (hb : b' = asRow b) (hwd : wd' = asRow wd)
  (hbd : bd' = asRow bd)

include hg hb

theorem point_mixed (j : Fin 128) : out0_10 x g' b' w wd' bd' wc (ix2 l j) = mixed (rowOf x l) g b w j := by
  subst hg hb
  frame_out
  simp only [k0_pay9]
  frame_out
  exact mixed_apply x g b w l j

theorem point_gate (j : Fin 128) : out0_11 x g' b' w wd' bd' wc (ix2 l j) = gate (rowOf x l) g b w j := by
  subst hg hb
  frame_out
  exact gate_apply x g b w l j

theorem point_coupling (wi wo : Mat 128 4)
    (hi : ∀ (k : Fin 128) (j : Fin 8), wc (ix2 k j) = if h : j.val < 4 then wi (ix2 k ⟨j.val, h⟩) else wo (ix2 k ⟨j.val - 4, by omega⟩))
    (j : Fin 8) : out0_9 x g' b' w wd' bd' wc (ix2 l j) = coupling (rowOf x l) g b w wi wo j := by
  subst hg hb
  frame_out
  simp only [k0_pay9]
  frame_out
  pointwise [k0_pay3]
  simp only [mixed_apply, hi, coupling, proj]
  split <;> rfl

include hwd hbd

theorem point_step (j : Fin 128) : out0_7 x g' b' w wd' bd' wc (ix2 l j) = step (rowOf x l) g b w wd bd j := by
  subst hg hb hwd hbd
  frame_out
  simp only [k0_pay10, k0_pay11]
  frame_out
  exact step_apply x g b w l wd bd j

theorem point_drive (j : Fin 128) :
    out0_8 x g' b' w wd' bd' wc (ix2 l j) = step (rowOf x l) g b w wd bd j * mixed (rowOf x l) g b w j := by
  subst hg hb hwd hbd
  frame_out
  simp only [k0_pay2, k0_pay9, k0_pay10, k0_pay11]
  frame_out
  rw [← step_apply x g b w l wd bd j, ← mixed_apply x g b w l j]
  rfl

end Cert.Kernel2Ideal.Block

end
-- ==== Proof.PrepArray.lean ====
/- The five arrays that the call before a scan leaves: the plain mathematics, at every index. -/
module

public import proofs.«01_k».proof.Proof.Prep

@[expose] public section

set_option maxRecDepth 16384

noncomputable section

namespace Cert.Kernel2Ideal.Block

open Idealize.ShloMosaic Idealize.ShloMosaic.TcCoe Cert.Kernel2Ideal Cert.Kernel2Ideal.Gen Cert.Spec

variable (m : (ℓ : Loc nD τ sig) → Buf (Elt Ideal) ℓ) (c : Dev nD)

/-- Which block each window reads or writes at grid point `t`. -/
theorem places : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] := by decide +kernel

/-- The couplings' weights: the two matrices side by side. -/
theorem read_wc (t : Fin cfg0.N) (k : Fin 128) (j : Fin 8) : (iblk m c 6 t : Vec Ideal S128x8 .f32) (ix2 k j) =
    if h : j.val < 4 then (m ((c : Thread nD τ).loc main_arg6) : Mat 128 4) (ix2 k ⟨j.val, h⟩)
    else (m ((c : Thread nD τ).loc main_arg7) : Mat 128 4) (ix2 k ⟨j.val - 4, by omega⟩) := by
  have he : (win0_6.blk t).view.emb (ix2 k j) = ix2 k j := by blk_ext [places t]
  show V m c main_v0 ((win0_6.blk t).view.emb (ix2 k j)) = _
  rw [he]
  entry_read
  pointwise

variable (t : Fin cfg0.N) (l : Fin 2048) (h : 2048 * t.val + l.val < 16384)

theorem read_x : rowOf (iblk m c 0 t : Vec Ideal S2048x128 .f32) l = rowOf (m ((c : Thread nD τ).loc main_arg0) : Mat 16384 128) ⟨2048 * t.val + l.val, h⟩ := by
  funext k
  simp only [rowOf]
  blk_ext [iblk, V, places t]

theorem read_g : (iblk m c 1 t : Vec Ideal S1x128 .f32) = asRow (m ((c : Thread nD τ).loc main_arg1) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_b : (iblk m c 2 t : Vec Ideal S1x128 .f32) = asRow (m ((c : Thread nD τ).loc main_arg2) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_w : (iblk m c 3 t : Vec Ideal S128x256 .f32) = m ((c : Thread nD τ).loc main_arg3) := by
  funext y
  blk_ext [iblk, V, places t]

theorem read_wd : (iblk m c 4 t : Vec Ideal S1x128 .f32) = asRow (m ((c : Thread nD τ).loc main_arg4) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_bd : (iblk m c 5 t : Vec Ideal S1x128 .f32) = asRow (m ((c : Thread nD τ).loc main_arg5) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem place7 (j : Fin 128) : (win0_7.blk t).view.emb (ix2 l j) = ix2 ⟨2048 * t.val + l.val, h⟩ j := by
  blk_ext [places t]

theorem place8 (j : Fin 128) : (win0_8.blk t).view.emb (ix2 l j) = ix2 ⟨2048 * t.val + l.val, h⟩ j := by
  blk_ext [places t]

theorem place9 (j : Fin 8) : (win0_9.blk t).view.emb (ix2 l j) = ix2 ⟨2048 * t.val + l.val, h⟩ j := by
  blk_ext [places t]

theorem place10 (j : Fin 128) : (win0_10.blk t).view.emb (ix2 l j) = ix2 ⟨2048 * t.val + l.val, h⟩ j := by
  blk_ext [places t]

theorem place11 (j : Fin 128) : (win0_11.blk t).view.emb (ix2 l j) = ix2 ⟨2048 * t.val + l.val, h⟩ j := by
  blk_ext [places t]

/-- A row of a grid point's blocks is a row of the arrays. -/
theorem inside : 2048 * t.val + l.val < 16384 := by
  have ht : t.val < 8 := t.isLt
  omega

theorem step_eq : (dats m 0 c).arrAt 7 cfg0.N =
    steps (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  obtain ⟨l, j, rfl⟩ : ∃ (l : Fin 2048) (j : Fin 128), y = ix2 l j := ⟨y 0, y 1, eq_ix2 y⟩
  rw [place7 t l (inside t l) j]
  refine (point_step _ _ _ _ l _ _ _ _ _ _ _ (read_g m c t) (read_b m c t) (read_wd m c t) (read_bd m c t) j).trans ?_
  rw [read_x m c t l (inside t l), read_w]
  rfl

theorem drive_eq : (dats m 0 c).arrAt 8 cfg0.N =
    drives (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  obtain ⟨l, j, rfl⟩ : ∃ (l : Fin 2048) (j : Fin 128), y = ix2 l j := ⟨y 0, y 1, eq_ix2 y⟩
  rw [place8 t l (inside t l) j]
  refine (point_drive _ _ _ _ l _ _ _ _ _ _ _ (read_g m c t) (read_b m c t) (read_wd m c t) (read_bd m c t) j).trans ?_
  rw [read_x m c t l (inside t l), read_w]
  rfl

theorem coupling_eq : (dats m 0 c).arrAt 9 cfg0.N =
    couplings (m ((c : Thread nD τ).loc main_arg0)) (m ((c : Thread nD τ).loc main_arg1)) (m ((c : Thread nD τ).loc main_arg2))
      (m ((c : Thread nD τ).loc main_arg3)) (m ((c : Thread nD τ).loc main_arg6)) (m ((c : Thread nD τ).loc main_arg7)) := by
  refine (dats m 0 c).arrAt_eq_of_covers 9 _ (by decide +kernel) fun t hf y => ?_
  blk_simp
  rw [after0_9]
  obtain ⟨l, j, rfl⟩ : ∃ (l : Fin 2048) (j : Fin 8), y = ix2 l j := ⟨y 0, y 1, eq_ix2 y⟩
  rw [place9 t l (inside t l) j]
  refine (point_coupling _ _ _ _ l _ _ _ _ _ (read_g m c t) (read_b m c t) _ _ (read_wc m c t) j).trans ?_
  rw [read_x m c t l (inside t l), read_w]
  rfl

theorem mixed_eq : (dats m 0 c).arrAt 10 cfg0.N =
    mixeds (m ((c : Thread nD τ).loc main_arg0)) (m ((c : Thread nD τ).loc main_arg1)) (m ((c : Thread nD τ).loc main_arg2))
      (m ((c : Thread nD τ).loc main_arg3)) := by
  refine (dats m 0 c).arrAt_eq_of_covers 10 _ (by decide +kernel) fun t hf y => ?_
  blk_simp
  rw [after0_10]
  obtain ⟨l, j, rfl⟩ : ∃ (l : Fin 2048) (j : Fin 128), y = ix2 l j := ⟨y 0, y 1, eq_ix2 y⟩
  rw [place10 t l (inside t l) j]
  refine (point_mixed _ _ _ _ l _ _ _ _ _ (read_g m c t) (read_b m c t) j).trans ?_
  rw [read_x m c t l (inside t l), read_w]
  rfl

theorem gate_eq : (dats m 0 c).arrAt 11 cfg0.N =
    gates (m ((c : Thread nD τ).loc main_arg0)) (m ((c : Thread nD τ).loc main_arg1)) (m ((c : Thread nD τ).loc main_arg2))
      (m ((c : Thread nD τ).loc main_arg3)) := by
  refine (dats m 0 c).arrAt_eq_of_covers 11 _ (by decide +kernel) fun t hf y => ?_
  blk_simp
  rw [after0_11]
  obtain ⟨l, j, rfl⟩ : ∃ (l : Fin 2048) (j : Fin 128), y = ix2 l j := ⟨y 0, y 1, eq_ix2 y⟩
  rw [place11 t l (inside t l) j]
  refine (point_gate _ _ _ _ l _ _ _ _ _ (read_g m c t) (read_b m c t) j).trans ?_
  rw [read_x m c t l (inside t l), read_w]
  rfl

end Cert.Kernel2Ideal.Block

end
-- ==== Proof.PrepRef.lean ====
/- The reference of the call before a scan: each of its five results is the plain mathematics. -/
module

public import proofs.«01_k».proof.Proof.MixerSpec
public import proofs.«01_k».proof.Proof.Gen.Reference2Ideal.Read

@[expose] public section

set_option maxRecDepth 16384

noncomputable section

namespace Cert.Reference2Ideal.Plain

open Idealize.ShloMosaic Cert.Reference2Ideal Cert.Reference2Ideal.Read Cert.Spec

variable (x0 : Mat 16384 128) (x1 x2 : Row 128) (x3 : Mat 128 256) (x4 x5 : Row 128) (x6 x7 : Mat 128 4)

theorem halves_apply (r : Fin 16384) (c : Fin 256) :
    val_main_v24 (F := Ideal) x0 x1 x2 x3 (ix2 r c) = halves (rowOf x0 r) x1 x2 x3 c := by
  pointwise [val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_3]
  simp only [halves, proj, normRow, var, mean, c128, eps, rowOf, asRow_apply]

theorem mixed_apply (r : Fin 16384) (j : Fin 128) :
    val_main_v25 (F := Ideal) x0 x1 x2 x3 (ix2 r j) = mixed (rowOf x0 r) x1 x2 x3 j := by
  pointwise [val_main_v25]
  simp only [halves_apply, mixed]

theorem gate_apply (r : Fin 16384) (j : Fin 128) :
    val_main_v26 (F := Ideal) x0 x1 x2 x3 (ix2 r j) = gate (rowOf x0 r) x1 x2 x3 j := by
  pointwise [val_main_v26]
  simp only [halves_apply, gate]

theorem step_apply (r : Fin 16384) (j : Fin 128) :
    val_main_v33 (F := Ideal) x0 x1 x2 x3 x4 x5 (ix2 r j) = step (rowOf x0 r) x1 x2 x3 x4 x5 j := by
  pointwise [val_main_v33, val_main_v32, val_main_v31, val_main_v30, val_main_v29, val_main_v28, val_main_v27,
    val_main_call0_v0, val_main_call0_v1, val_main_call0_v2, val_main_call0_v3, val_main_call0_v4, val_main_call0_v5,
    val_main_call0_v6, val_main_call0_v7, val_main_call0_v8, val_main_call0_v9, val_main_call0_v10, val_main_call0_v11,
    val_main_call0_cst]
  simp only [mixed_apply, step, softplus, ne_eq, not_true_eq_false, if_false]
  rfl

theorem mixed_eq : val_main_v25 (F := Ideal) x0 x1 x2 x3 = mixeds x0 x1 x2 x3 := by
  funext i
  idx_vars i
  rw [mixed_apply]
  rfl

theorem gate_eq : val_main_v26 (F := Ideal) x0 x1 x2 x3 = gates x0 x1 x2 x3 := by
  funext i
  idx_vars i
  rw [gate_apply]
  rfl

theorem step_eq : val_main_v33 (F := Ideal) x0 x1 x2 x3 x4 x5 = steps x0 x1 x2 x3 x4 x5 := by
  funext i
  idx_vars i
  rw [step_apply]
  rfl

theorem drive_eq : val_main_v36 (F := Ideal) x0 x1 x2 x3 x4 x5 = drives x0 x1 x2 x3 x4 x5 := by
  unfold val_main_v36
  rw [step_eq, mixed_eq]
  rfl

theorem coupling_eq : val_main_v37 (F := Ideal) x0 x1 x2 x3 x6 x7 = couplings x0 x1 x2 x3 x6 x7 := by
  funext i
  idx_vars i
  pointwise [val_main_v37, val_main_v34, val_main_v35]
  simp only [mixed_apply]
  rfl

end Cert.Reference2Ideal.Plain

end
-- ==== Proof.Post.lean ====
/- The call after a scan that is not the last: what it stores, the array it leaves, and its reference. -/
module

public import proofs.«01_k».proof.Proof.MixerSpec
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Block

open Idealize.ShloMosaic Idealize.ShloMosaic.TcCoe Cert.Kernel3Ideal Cert.Kernel3Ideal.Gen Cert.Spec

/-- What one grid point computes from its 2048 rows. -/
theorem point_apply (s x z r : Vec Ideal S2048x128 .f32) (d : Vec Ideal S1x128 .f32) (w : Vec Ideal S128x128 .f32)
    (g b : Vec Ideal S1x128 .f32) (e : Row 128) (he : d = asRow e) (l : Fin 2048) (j : Fin 128) :
    out0_8 s x z r d w g b (ix2 l j) = out (rowOf s l) (rowOf x l) (rowOf z l) (rowOf r l) e w j := by
  subst he
  frame_out
  pointwise [k0_pay1]
  simp only [zero_sub, div_eq_silu, asRow_apply, out, proj, rowOf]
  exact add_comm (G := EReal) _ _

variable (m : (ℓ : Loc nD τ sig) → Buf (Elt Ideal) ℓ) (c : Dev nD)

/-- Which block each window reads or writes at grid point `t`. -/
theorem places : ∀ t : Fin grid0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] := by decide +kernel

variable (t : Fin cfg0.N) (l : Fin 2048) (h : 2048 * t.val + l.val < 16384)

theorem read_s : rowOf (iblk m c 0 t : Vec Ideal S2048x128 .f32) l = rowOf (m ((c : Thread nD τ).loc main_arg0) : Mat 16384 128) ⟨2048 * t.val + l.val, h⟩ := by
  funext k
  simp only [rowOf]
  blk_ext [iblk, V, places t]

theorem read_x : rowOf (iblk m c 1 t : Vec Ideal S2048x128 .f32) l = rowOf (m ((c : Thread nD τ).loc main_arg1) : Mat 16384 128) ⟨2048 * t.val + l.val, h⟩ := by
  funext k
  simp only [rowOf]
  blk_ext [iblk, V, places t]

theorem read_z : rowOf (iblk m c 2 t : Vec Ideal S2048x128 .f32) l = rowOf (m ((c : Thread nD τ).loc main_arg2) : Mat 16384 128) ⟨2048 * t.val + l.val, h⟩ := by
  funext k
  simp only [rowOf]
  blk_ext [iblk, V, places t]

theorem read_r : rowOf (iblk m c 3 t : Vec Ideal S2048x128 .f32) l = rowOf (m ((c : Thread nD τ).loc main_arg3) : Mat 16384 128) ⟨2048 * t.val + l.val, h⟩ := by
  funext k
  simp only [rowOf]
  blk_ext [iblk, V, places t]

theorem read_d : (iblk m c 4 t : Vec Ideal S1x128 .f32) = asRow (m ((c : Thread nD τ).loc main_arg4) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_w : (iblk m c 5 t : Vec Ideal S128x128 .f32) = m ((c : Thread nD τ).loc main_arg5) := by
  funext y
  blk_ext [iblk, V, places t]

/-- Where the element at row `l`, column `j` of point `t`'s output block lies in the whole array. -/
theorem place (j : Fin 128) : (win0_8.blk t).view.emb (ix2 l j) = ix2 ⟨2048 * t.val + l.val, h⟩ j := by
  blk_ext [places t]

/-- The result array after the run. -/
theorem array_eq :
    (dats m 0 c).arrAt 8 cfg0.N =
      outs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  obtain ⟨l, j, rfl⟩ : ∃ (l : Fin 2048) (j : Fin 128), y = ix2 l j := ⟨y 0, y 1, eq_ix2 y⟩
  have ht : t.val < 8 := t.isLt
  have h : 2048 * t.val + l.val < 16384 := by omega
  rw [place t l h j]
  refine (point_apply _ _ _ _ _ _ _ _ _ (read_d m c t) l j).trans ?_
  rw [read_s m c t l h, read_x m c t l h, read_z m c t l h, read_r m c t l h, read_w]
  rfl

end Cert.Kernel3Ideal.Block

namespace Cert.Reference3Ideal.Plain

open Idealize.ShloMosaic Cert.Reference3Ideal Cert.Reference3Ideal.Read Cert.Spec

variable (x0 x1 x2 x3 : Mat 16384 128) (x4 : Row 128) (x5 : Mat 128 128)

/-- The reference's result is the plain mathematics. -/
theorem result_eq : val_main_v7 (F := Ideal) x0 x1 x2 x3 x4 x5 = outs x0 x1 x2 x3 x4 x5 := by
  funext i
  idx_vars i
  pointwise [val_main_v7, val_main_v6, val_main_v5, val_main_v4, val_main_v3, val_main_v2, val_main_v1, val_main_v0,
    val_main_call0_v0, val_main_call0_v1, val_main_call0_v2, val_main_call0_v3, val_main_call0_v4, val_main_call0_v5,
    val_main_call0_cst, val_main_call0_cst_0]
  rfl

end Cert.Reference3Ideal.Plain

end
-- ==== Proof.Last.lean ====
/- The call after the last scan: what it stores, the array it leaves, and its reference. -/
module

public import proofs.«01_k».proof.Proof.MixerSpec
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Block

open Idealize.ShloMosaic Idealize.ShloMosaic.TcCoe Cert.Kernel4Ideal Cert.Kernel4Ideal.Gen Cert.Spec

/-- A grid point's rows before their normalisation. -/
theorem sum_apply (s x z r : Vec Ideal S2048x128 .f32) (w : Vec Ideal S128x128 .f32) (e : Row 128) (l : Fin 2048)
    (j : Fin 128) :
    k0_pay2 s x z (asRow e : Vec Ideal S1x128 .f32) w r (ix2 l j) = out (rowOf s l) (rowOf x l) (rowOf z l) (rowOf r l) e w j := by
  pointwise [k0_pay2]
  simp only [zero_sub, div_eq_silu, asRow_apply, out, proj, rowOf]
  exact add_comm (G := EReal) _ _

/-- What one grid point computes from its 2048 rows. -/
theorem point_apply (s x z r : Vec Ideal S2048x128 .f32) (d : Vec Ideal S1x128 .f32) (w : Vec Ideal S128x128 .f32)
    (g b : Vec Ideal S1x128 .f32) (e g' b' : Row 128) (he : d = asRow e) (hg : g = asRow g') (hb : b = asRow b')
    (l : Fin 2048) (j : Fin 128) :
    out0_8 s x z r d w g b (ix2 l j)
      = normRow (out (rowOf s l) (rowOf x l) (rowOf z l) (rowOf r l) e w) (asRow g') (asRow b') j := by
  subst he hg hb
  frame_out
  pointwise [k0_pay1, k0_pay3, k0_pay4, k0_pay5, k0_pay6, k0_pay7]
  simp only [sum_apply]
  simp only [normRow, var, mean, c128, eps]

variable (m : (ℓ : Loc nD τ sig) → Buf (Elt Ideal) ℓ) (c : Dev nD)

/-- Which block each window reads or writes at grid point `t`. -/
theorem places : ∀ t : Fin grid0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] := by decide +kernel

variable (t : Fin cfg0.N) (l : Fin 2048) (h : 2048 * t.val + l.val < 16384)

theorem read_s : rowOf (iblk m c 0 t : Vec Ideal S2048x128 .f32) l = rowOf (m ((c : Thread nD τ).loc main_arg0) : Mat 16384 128) ⟨2048 * t.val + l.val, h⟩ := by
  funext k
  simp only [rowOf]
  blk_ext [iblk, V, places t]

theorem read_x : rowOf (iblk m c 1 t : Vec Ideal S2048x128 .f32) l = rowOf (m ((c : Thread nD τ).loc main_arg1) : Mat 16384 128) ⟨2048 * t.val + l.val, h⟩ := by
  funext k
  simp only [rowOf]
  blk_ext [iblk, V, places t]

theorem read_z : rowOf (iblk m c 2 t : Vec Ideal S2048x128 .f32) l = rowOf (m ((c : Thread nD τ).loc main_arg2) : Mat 16384 128) ⟨2048 * t.val + l.val, h⟩ := by
  funext k
  simp only [rowOf]
  blk_ext [iblk, V, places t]

theorem read_r : rowOf (iblk m c 3 t : Vec Ideal S2048x128 .f32) l = rowOf (m ((c : Thread nD τ).loc main_arg3) : Mat 16384 128) ⟨2048 * t.val + l.val, h⟩ := by
  funext k
  simp only [rowOf]
  blk_ext [iblk, V, places t]

theorem read_d : (iblk m c 4 t : Vec Ideal S1x128 .f32) = asRow (m ((c : Thread nD τ).loc main_arg4) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_w : (iblk m c 5 t : Vec Ideal S128x128 .f32) = m ((c : Thread nD τ).loc main_arg5) := by
  funext y
  blk_ext [iblk, V, places t]

theorem read_g : (iblk m c 6 t : Vec Ideal S1x128 .f32) = asRow (m ((c : Thread nD τ).loc main_arg6) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

theorem read_b : (iblk m c 7 t : Vec Ideal S1x128 .f32) = asRow (m ((c : Thread nD τ).loc main_arg7) : Row 128) := by
  funext y
  obtain ⟨i, j, rfl⟩ : ∃ (i : Fin 1) (j : Fin 128), y = ix2 i j := ⟨y 0, y 1, eq_ix2 y⟩
  obtain rfl : i = 0 := Subsingleton.elim _ _
  rw [asRow_apply]
  blk_ext! [iblk, V, places t]

/-- Where the element at row `l`, column `j` of point `t`'s output block lies in the whole array. -/
theorem place (j : Fin 128) : (win0_8.blk t).view.emb (ix2 l j) = ix2 ⟨2048 * t.val + l.val, h⟩ j := by
  blk_ext [places t]

/-- The result array after the run. -/
theorem array_eq :
    (dats m 0 c).arrAt 8 cfg0.N =
      lasts (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  obtain ⟨l, j, rfl⟩ : ∃ (l : Fin 2048) (j : Fin 128), y = ix2 l j := ⟨y 0, y 1, eq_ix2 y⟩
  have ht : t.val < 8 := t.isLt
  have h : 2048 * t.val + l.val < 16384 := by omega
  rw [place t l h j]
  refine (point_apply _ _ _ _ _ _ _ _ _ _ _ (read_d m c t) (read_g m c t) (read_b m c t) l j).trans ?_
  rw [read_s m c t l h, read_x m c t l h, read_z m c t l h, read_r m c t l h, read_w]
  rfl

end Cert.Kernel4Ideal.Block

namespace Cert.Reference4Ideal.Plain

open Idealize.ShloMosaic Cert.Reference4Ideal Cert.Reference4Ideal.Read Cert.Spec

variable (x0 x1 x2 x3 : Mat 16384 128) (x4 : Row 128) (x5 : Mat 128 128) (x6 x7 : Row 128)

/-- The rows before their normalisation. -/
theorem out_apply (r : Fin 16384) (j : Fin 128) :
    val_main_v7 (F := Ideal) x0 x1 x2 x3 x4 x5 (ix2 r j)
      = out (rowOf x0 r) (rowOf x1 r) (rowOf x2 r) (rowOf x3 r) x4 x5 j := by
  pointwise [val_main_v7, val_main_v6, val_main_v5, val_main_v4, val_main_v3, val_main_v2, val_main_v1, val_main_v0,
    val_main_call0_v0, val_main_call0_v1, val_main_call0_v2, val_main_call0_v3, val_main_call0_v4, val_main_call0_v5,
    val_main_call0_cst, val_main_call0_cst_0]
  rfl

/-- The reference's result is the plain mathematics. -/
theorem result_eq : val_main_v31 (F := Ideal) x0 x1 x2 x3 x4 x5 x6 x7 = lasts x0 x1 x2 x3 x4 x5 x6 x7 := by
  funext i
  idx_vars i
  pointwise [val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_cst, val_main_cst_0, val_main_cst_1, val_main_cst_2, val_main_cst_3]
  simp only [out_apply]
  simp only [lasts_apply, normRow, var, mean, c128, eps, asRow_apply]

end Cert.Reference4Ideal.Plain

end
-- ==== Proof.Scan.lean ====
/- The scan of a mixer layer as plain mathematics over the extended reals: the state of one chunk, one channel and one
   coupling after `n` time steps, and the time that has passed by then. -/
module

public import proofs.«01_k».proof.Proof.MixerSpec
public import Idealize.ShloMosaic.Lib.DynamicIndex

@[expose] public section

noncomputable section

namespace Cert.Spec

open Idealize.ShloMosaic

/-- A three-dimensional array of extended reals. -/
abbrev Cube (a b c : ℕ) : Type := (⟨3, ![a, b, c]⟩ : Shape).Idx → EReal

/-- Time step number `n`. -/
def clock (n : ℕ) : Fin 128 := ⟨n % 128, Nat.mod_lt _ (by decide)⟩

theorem clock_of_lt {n : ℕ} (h : n < 128) : clock n = ⟨n, h⟩ := Fin.ext (Nat.mod_eq_of_lt h)

/-- The rate at which coupling `j`'s state decays in channel `h`. -/
def rate (A : Mat 128 4) (j : Fin 4) (h : Fin 128) : EReal := -Ideal.exp (A (ix2 h j))

/-- One step of the recurrence: the state decayed over the step, plus the step's drive. -/
def advance (dt r u b s : EReal) : EReal := Ideal.exp (dt * r) * s + u * b

/-- The state of chunk `k` after `n` steps from `s`. -/
def state (dt u : Cube 128 128 128) (bc : Cube 128 128 8) (A : Mat 128 4) (j : Fin 4) (k h : Fin 128) (s : EReal) : ℕ → EReal
  | 0 => s
  | n + 1 => advance (dt (ix3 k (clock n) h)) (rate A j h) (u (ix3 k (clock n) h)) (bc (ix3 k (clock n) ⟨j.val, by omega⟩))
      (state dt u bc A j k h s n)

/-- The time that has passed in chunk `k` after `n` steps. -/
def passed (dt : Cube 128 128 128) (k h : Fin 128) : ℕ → EReal
  | 0 => 0
  | n + 1 => passed dt k h n + dt (ix3 k (clock n) h)

/-- The state each chunk ends with when it starts from nothing. -/
def ends (dt u : Cube 128 128 128) (bc : Cube 128 128 8) (A : Mat 128 4) : Cube 4 128 128 := fun i =>
  state dt u bc A (i 0) (i 1) (i 2) 0 128

/-- The time each chunk takes. -/
def times (dt : Cube 128 128 128) : Mat 128 128 := fun i => passed dt (i 0) (i 1) 128

/-- A loop's cut of trip `n` out of an array whose first axis counts the trips. -/
theorem trip_slice {d : ℕ} (x : Cube 128 128 d) (start : Fin 3 → Int)
    (w : (⟨3, ![128, 128, d]⟩ : Shape).Slices (fun _ => 0) ⟨3, ![1, 128, d]⟩) {n : ℕ} (hn : n < 128)
    (h0 : start 0 = n) (h1 : start 1 = 0) (h2 : start 2 = 0) (a : Fin 1) (k : Fin 128) (e : Fin d) :
    Host.dynamicSlice ⟨3, ![1, 128, d]⟩ x start w (ix3 a k e) = x (ix3 ⟨n, hn⟩ k e) := by
  have hoff : (⟨3, ![128, 128, d]⟩ : Shape).Slices ![n, 0, 0] ⟨3, ![1, 128, d]⟩ := by
    refine ⟨rfl, fun b => ?_⟩
    fin_cases b
    · show n + 1 ≤ 128
      omega
    · show 0 + 128 ≤ 128
      omega
    · show 0 + d ≤ d
      omega
  have hs : ∀ b : Fin 3, start b = ((![n, 0, 0] : Fin 3 → ℕ) b : Int) := by
    intro b
    fin_cases b
    · exact h0
    · exact h1
    · exact h2
  rw [Host.dynamicSlice_eq_extractStridedSlice _ x start ![n, 0, 0] w hoff hs]
  have ha : a = 0 := Subsingleton.elim _ _
  subst ha
  pointwise
  refine congrArg x (funext fun b => ?_)
  fin_cases b
  · exact Fin.ext (Nat.add_zero n)
  · exact Fin.ext (Nat.zero_add k.val)
  · exact Fin.ext (Nat.zero_add e.val)

end Cert.Spec

end
-- ==== Proof.Pass1.lean ====
/- One grid point of the call that runs every chunk from nothing: sixteen steps of the recurrence. -/
module

public import proofs.«01_k».proof.Proof.Scan
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Own

open Idealize.ShloMosaic Idealize.ShloMosaic.TcCoe Cert.Kernel5Ideal Cert.Kernel5Ideal.Gen Cert.Spec

variable (m : (ℓ : Loc nD τ sig) → Buf (Elt Ideal) ℓ) (c : Dev nD)

/-- Which block each window reads or writes at grid point `t`. -/
theorem places : ∀ t : Fin grid0.N, win0_0.index t = ![0, t.val, 0] ∧ win0_1.index t = ![0, t.val, 0]
    ∧ win0_2.index t = ![0, t.val, 0] ∧ win0_3.index t = ![0, 0] := by decide +kernel

/-- The arguments. -/
abbrev dts : Cube 128 128 128 := m ((c : Thread nD τ).loc main_arg0)
abbrev us : Cube 128 128 128 := m ((c : Thread nD τ).loc main_arg1)
abbrev bcs : Cube 128 128 8 := m ((c : Thread nD τ).loc main_arg2)
abbrev logs : Mat 128 4 := m ((c : Thread nD τ).loc main_arg3)

theorem point_lt (t : Fin cfg0.N) : t.val < 8 := lt_of_lt_of_eq t.isLt N_0

theorem time_lt (t : Fin cfg0.N) (i : Fin 16) : 16 * t.val + i.val < 128 := by
  have := point_lt t
  have := i.isLt
  omega

theorem clock_step (t : Fin cfg0.N) (i : Fin 16) : clock (16 * t.val + i.val) = ⟨16 * t.val + i.val, time_lt t i⟩ :=
  clock_of_lt _

theorem read_dt (t : Fin cfg0.N) (k h : Fin 128) (i : Fin 16) :
    (iblk m c 0 t : Vec Ideal S128x16x128 .f32) (ix3 k i h) = dts m c (ix3 k (clock (16 * t.val + i.val)) h) := by
  rw [clock_step]
  blk_ext [iblk, V, places t]

theorem read_u (t : Fin cfg0.N) (k h : Fin 128) (i : Fin 16) :
    (iblk m c 1 t : Vec Ideal S128x16x128 .f32) (ix3 k i h) = us m c (ix3 k (clock (16 * t.val + i.val)) h) := by
  rw [clock_step]
  blk_ext [iblk, V, places t]

theorem read_bc (t : Fin cfg0.N) (k : Fin 128) (i : Fin 16) (j : Fin 8) :
    (iblk m c 2 t : Vec Ideal S128x16x8 .f32) (ix3 k i j) = bcs m c (ix3 k (clock (16 * t.val + i.val)) j) := by
  rw [clock_step]
  blk_ext [iblk, V, places t]

theorem read_rate (t : Fin cfg0.N) (j : Fin 4) (h : Fin 128) :
    (iblk m c 3 t : Vec Ideal S4x128 .f32) (ix2 j h) = rate (logs m c) j h := by
  have he : (win0_3.blk t).view.emb (ix2 j h) = ix2 j h := by blk_ext [places t]
  show V m c main_v2 ((win0_3.blk t).view.emb (ix2 j h)) = _
  rw [he]
  entry_read
  pointwise
  rfl

/-- The states after `n` steps. -/
def states (n : ℕ) : Cube 4 128 128 := fun i => state (dts m c) (us m c) (bcs m c) (logs m c) (i 0) (i 1) (i 2) 0 n

theorem row_lt {g : ℕ} (inb : ∀ a : Fin S4x128x128.rank, (![g, 0, 0] : Fin 3 → ℕ) a + (![1, 128, 128] : Fin 3 → ℕ) a ≤ S4x128x128.size a) :
    g < 4 := inb 0

theorem place_row {g : ℕ} (inb) (k h : Fin 128) :
    (Rect.unit (s := S4x128x128) ![g, 0, 0] ![1, 128, 128] inb).emb (ix3 0 k h) = ix3 ⟨g, row_lt inb⟩ k h := by
  funext a
  fin_cases a
  · exact Fin.ext (Nat.add_zero g)
  · exact Fin.ext (by show 0 + 1 * k.val = k.val; omega)
  · exact Fin.ext (by show 0 + 1 * h.val = h.val; omega)

theorem row_piece {g : ℕ} (inb) (w : (Rect.unit (s := S4x128x128) ![g, 0, 0] ![1, 128, 128] inb).shape.Idx → EReal)
    (G : Cube 4 128 128) (hw : ∀ k h : Fin 128, w (ix3 0 k h) = G (ix3 ⟨g, row_lt inb⟩ k h)) (x) :
    w x = G ((Rect.unit (s := S4x128x128) ![g, 0, 0] ![1, 128, 128] inb).emb x) := by
  obtain ⟨a, k, h, rfl⟩ : ∃ (a : Fin 1) (k h : Fin 128), x = ix3 a k h := ⟨x 0, x 1, x 2, eq_ix3 x⟩
  obtain rfl : a = 0 := Subsingleton.elim _ _
  rw [place_row inb k h]
  exact hw k h

theorem in_row {g : ℕ} (inb) (k h : Fin 128) :
    ix3 ⟨g, row_lt inb⟩ k h ∈ (Rect.unit (s := S4x128x128) ![g, 0, 0] ![1, 128, 128] inb).set := by
  rw [← place_row inb k h]
  exact LoadRect.idx_mem _ _

/-- The stores of one step's four states, over any earlier ones, leave the four states. -/
theorem four_rows (w3 w2 w1 w0 : S1x128x128.Idx → Elt Ideal .f32) (L : List (View.Piece (Elt Ideal) S4x128x128 .f32)) (G : Cube 4 128 128)
    (h3 : ∀ k h : Fin 128, w3 (ix3 0 k h) = G (ix3 3 k h)) (h2 : ∀ k h : Fin 128, w2 (ix3 0 k h) = G (ix3 2 k h))
    (h1 : ∀ k h : Fin 128, w1 (ix3 0 k h) = G (ix3 1 k h)) (h0 : ∀ k h : Fin 128, w0 (ix3 0 k h) = G (ix3 0 k h))
    (j : Fin 4) (k h : Fin 128) :
    View.canon (⟨Rect.unit ![3, 0, 0] ![1, 128, 128] inb_S4x128x128_S1x128x128_3_0_0, w3⟩
      :: ⟨Rect.unit ![2, 0, 0] ![1, 128, 128] inb_S4x128x128_S1x128x128_2_0_0, w2⟩
      :: ⟨Rect.unit ![1, 0, 0] ![1, 128, 128] inb_S4x128x128_S1x128x128_1_0_0, w1⟩
      :: ⟨Rect.unit ![0, 0, 0] ![1, 128, 128] inb_S4x128x128_S1x128x128_0_0_0, w0⟩ :: L) (ix3 j k h) = G (ix3 j k h) := by
  refine View.canon_append_of_piecesOf (Val := Elt Ideal) (e := .f32) G L [_, _, _, _]
    ⟨row_piece inb_S4x128x128_S1x128x128_3_0_0 w3 G h3, row_piece inb_S4x128x128_S1x128x128_2_0_0 w2 G h2,
      row_piece inb_S4x128x128_S1x128x128_1_0_0 w1 G h1, row_piece inb_S4x128x128_S1x128x128_0_0_0 w0 G h0, trivial⟩ _ ?_
  fin_cases j
  · exact ⟨_, .tail _ (.tail _ (.tail _ (.head _))), in_row inb_S4x128x128_S1x128x128_0_0_0 k h⟩
  · exact ⟨_, .tail _ (.tail _ (.head _)), in_row inb_S4x128x128_S1x128x128_1_0_0 k h⟩
  · exact ⟨_, .tail _ (.head _), in_row inb_S4x128x128_S1x128x128_2_0_0 k h⟩
  · exact ⟨_, .head _, in_row inb_S4x128x128_S1x128x128_3_0_0 k h⟩

theorem passed_point (dt : Cube 128 128 128) (k h : Fin 128) (n : ℕ) : passed dt k h (n + 16) =
    passed dt k h n + dt (ix3 k (clock (n + (0 : Fin 16).val)) h) + dt (ix3 k (clock (n + (1 : Fin 16).val)) h)
    + dt (ix3 k (clock (n + (2 : Fin 16).val)) h) + dt (ix3 k (clock (n + (3 : Fin 16).val)) h)
    + dt (ix3 k (clock (n + (4 : Fin 16).val)) h) + dt (ix3 k (clock (n + (5 : Fin 16).val)) h)
    + dt (ix3 k (clock (n + (6 : Fin 16).val)) h) + dt (ix3 k (clock (n + (7 : Fin 16).val)) h)
    + dt (ix3 k (clock (n + (8 : Fin 16).val)) h) + dt (ix3 k (clock (n + (9 : Fin 16).val)) h)
    + dt (ix3 k (clock (n + (10 : Fin 16).val)) h) + dt (ix3 k (clock (n + (11 : Fin 16).val)) h)
    + dt (ix3 k (clock (n + (12 : Fin 16).val)) h) + dt (ix3 k (clock (n + (13 : Fin 16).val)) h)
    + dt (ix3 k (clock (n + (14 : Fin 16).val)) h) + dt (ix3 k (clock (n + (15 : Fin 16).val)) h) := rfl

theorem total_B (t : Fin cfg0.N) (h0 : ¬t.val % 8 = 0) (h1 : ¬t.val % 8 = 7) (k h : Fin 128)
    (hp : (outsAt0 m c (t.val - 1) (Nat.lt_of_le_of_lt (Nat.sub_le _ _) t.isLt)).2.2.2 (ix2 k h) = passed (dts m c) k h (16 * t.val)) :
    (outsAt0 m c t.val t.isLt).2.2.2 (ix2 k h) = passed (dts m c) k h (16 * t.val + 16) := by
  rw [Gen.outsAt0_B m c t h0 h1]
  frame_open
  simp (disch := decide) only [↓ View.readCov_skip, ↓ View.readCov_cons_toLoadRect, ↓ View.readCov_fill]
  frame_out
  simp only [read_unread_whole]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
  rw [passed_point, hp]
  simp only [read_dt]

theorem total_A (t : Fin cfg0.N) (h0 : t.val % 8 = 0) (h1 : ¬t.val % 8 = 7) (k h : Fin 128) :
    (outsAt0 m c t.val t.isLt).2.2.2 (ix2 k h) = passed (dts m c) k h (16 * t.val + 16) := by
  rw [Gen.outsAt0_A m c t h0 h1]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
  rw [passed_point, show 16 * t.val = 0 by have := point_lt t; omega]
  simp only [read_dt, show t.val = 0 by have := point_lt t; omega]
  rw [show passed (dts m c) k h 0 = 0 from rfl, zero_add]

theorem total_C (t : Fin cfg0.N) (h0 : ¬t.val % 8 = 0) (h1 : t.val % 8 = 7) (k h : Fin 128)
    (hp : (outsAt0 m c (t.val - 1) (Nat.lt_of_le_of_lt (Nat.sub_le _ _) t.isLt)).2.2.2 (ix2 k h) = passed (dts m c) k h (16 * t.val)) :
    (outsAt0 m c t.val t.isLt).2.1 (ix2 k h) = passed (dts m c) k h (16 * t.val + 16) := by
  rw [Gen.outsAt0_C m c t h0 h1]
  frame_open
  simp (disch := decide) only [↓ View.readCov_skip, ↓ View.readCov_cons_toLoadRect, ↓ View.readCov_fill]
  frame_out
  simp only [read_unread_whole]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
  rw [passed_point, hp]
  simp only [read_dt]

theorem state_B (t : Fin cfg0.N) (h0 : ¬t.val % 8 = 0) (h1 : ¬t.val % 8 = 7)
    (hp : ∀ (j : Fin 4) (k h : Fin 128), (outsAt0 m c (t.val - 1) (Nat.lt_of_le_of_lt (Nat.sub_le _ _) t.isLt)).2.2.1 (ix3 j k h)
      = state (dts m c) (us m c) (bcs m c) (logs m c) j k h 0 (16 * t.val)) (j : Fin 4) (k h : Fin 128) :
    (outsAt0 m c t.val t.isLt).2.2.1 (ix3 j k h) = state (dts m c) (us m c) (bcs m c) (logs m c) j k h 0 (16 * t.val + 16) := by
  rw [Gen.outsAt0_B m c t h0 h1]
  frame_open
  simp (disch := decide) only [↓ View.readCov_skip, ↓ View.readCov_cons_toLoadRect, ↓ View.readCov_fill]
  frame_out
  simp only [read_unread_whole]
  show _ = states m c (16 * t.val + 16) (ix3 j k h)
  refine four_rows _ _ _ _ _ (states m c (16 * t.val + 16)) (fun k h => ?_) (fun k h => ?_) (fun k h => ?_) (fun k h => ?_) j k h
  all_goals
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
    simp only [read_dt, read_u, read_bc, read_rate]
    rw [hp]
    rfl

theorem state_A (t : Fin cfg0.N) (h0 : t.val % 8 = 0) (h1 : ¬t.val % 8 = 7) (j : Fin 4) (k h : Fin 128) :
    (outsAt0 m c t.val t.isLt).2.2.1 (ix3 j k h) = state (dts m c) (us m c) (bcs m c) (logs m c) j k h 0 (16 * t.val + 16) := by
  rw [Gen.outsAt0_A m c t h0 h1]
  frame_open
  simp (disch := decide) only [↓ View.readCov_skip, ↓ View.readCov_cons_toLoadRect, ↓ View.readCov_fill]
  frame_out
  show _ = states m c (16 * t.val + 16) (ix3 j k h)
  refine four_rows _ _ _ _ _ (states m c (16 * t.val + 16)) (fun k h => ?_) (fun k h => ?_) (fun k h => ?_) (fun k h => ?_) j k h
  all_goals
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
    simp only [read_dt, read_u, read_bc, read_rate]
    rw [show t.val = 0 by have := point_lt t; omega]
    rfl

end Cert.Kernel5Ideal.Own

end
-- ==== Proof.Pass1Array.lean ====
/- What the call that runs every chunk from nothing leaves: the state each chunk ends with and the time it takes. -/
module

public import proofs.«01_k».proof.Proof.Pass1

@[expose] public section

set_option maxRecDepth 16384

noncomputable section

namespace Cert.Kernel5Ideal.Own

open Idealize.ShloMosaic Idealize.ShloMosaic.TcCoe Idealize.SL.Sem Cert.Kernel5Ideal Cert.Kernel5Ideal.Gen Cert.Spec

variable (m : (ℓ : Loc nD τ sig) → Buf (Elt Ideal) ℓ) (c : Dev nD)

theorem place_all (inb) (j : Fin 4) (k h : Fin 128) :
    (Rect.unit (s := S4x128x128) ![0, 0, 0] ![4, 128, 128] inb).toLoadRect.idx (ix3 j k h) = ix3 j k h := by
  funext a
  fin_cases a
  · exact Fin.ext (by show 0 + 1 * j.val = j.val; omega)
  · exact Fin.ext (by show 0 + 1 * k.val = k.val; omega)
  · exact Fin.ext (by show 0 + 1 * h.val = h.val; omega)

theorem state_C (t : Fin cfg0.N) (h0 : ¬t.val % 8 = 0) (h1 : t.val % 8 = 7)
    (hp : ∀ (j : Fin 4) (k h : Fin 128), (outsAt0 m c (t.val - 1) (Nat.lt_of_le_of_lt (Nat.sub_le _ _) t.isLt)).2.2.1 (ix3 j k h)
      = state (dts m c) (us m c) (bcs m c) (logs m c) j k h 0 (16 * t.val)) (j : Fin 4) (k h : Fin 128) :
    (outsAt0 m c t.val t.isLt).1 (ix3 j k h) = state (dts m c) (us m c) (bcs m c) (logs m c) j k h 0 (16 * t.val + 16) := by
  rw [Gen.outsAt0_C m c t h0 h1]
  frame_open
  simp (disch := decide) only [↓ View.readCov_skip, ↓ View.readCov_cons_toLoadRect, ↓ View.readCov_fill]
  frame_out
  simp only [read_unread_whole]
  rw [View.readCov_eq_canon']
  beta_reduce
  rw [place_all]
  show _ = states m c (16 * t.val + 16) (ix3 j k h)
  refine four_rows _ _ _ _ _ (states m c (16 * t.val + 16)) (fun k h => ?_) (fun k h => ?_) (fun k h => ?_) (fun k h => ?_) j k h
  all_goals
    pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143]
    simp only [read_dt, read_u, read_bc, read_rate]
    rw [hp]
    rfl

theorem first : ¬0 % 8 = 7 := by decide

theorem last : ¬7 % 8 = 0 := by decide

/-- After every grid point but the last the two buffers carry the recurrence's states and the time passed. -/
theorem carried : ∀ (n : ℕ) (hn : n < cfg0.N), n < 7 →
    (∀ (j : Fin 4) (k h : Fin 128), (outsAt0 m c n hn).2.2.1 (ix3 j k h)
      = state (dts m c) (us m c) (bcs m c) (logs m c) j k h 0 (16 * n + 16))
    ∧ ∀ k h : Fin 128, (outsAt0 m c n hn).2.2.2 (ix2 k h) = passed (dts m c) k h (16 * n + 16)
  | 0, hn, _ => ⟨state_A m c ⟨0, hn⟩ rfl first, total_A m c ⟨0, hn⟩ rfl first⟩
  | n + 1, hn, h7 => by
    obtain ⟨hs, ht⟩ := carried n (Nat.lt_of_succ_lt hn) (by omega)
    have h0 : ¬(n + 1) % 8 = 0 := by omega
    have h1 : ¬(n + 1) % 8 = 7 := by omega
    exact ⟨state_B m c ⟨n + 1, hn⟩ h0 h1 hs, fun k h => total_B m c ⟨n + 1, hn⟩ h0 h1 k h (ht k h)⟩

/-- After the last grid point. -/
theorem finished (n : ℕ) (hn : n + 1 < cfg0.N) (hlt : n < 7) (h0 : ¬(n + 1) % 8 = 0) (h1 : (n + 1) % 8 = 7) :
    (∀ (j : Fin 4) (k h : Fin 128), (outsAt0 m c (n + 1) hn).1 (ix3 j k h)
      = state (dts m c) (us m c) (bcs m c) (logs m c) j k h 0 (16 * (n + 1) + 16))
    ∧ ∀ k h : Fin 128, (outsAt0 m c (n + 1) hn).2.1 (ix2 k h) = passed (dts m c) k h (16 * (n + 1) + 16) :=
  have hp := carried m c n (Nat.lt_of_succ_lt hn) hlt
  ⟨state_C m c ⟨n + 1, hn⟩ h0 h1 hp.1, fun k h => total_C m c ⟨n + 1, hn⟩ h0 h1 k h (hp.2 k h)⟩

theorem end_of : ¬(6 + 1) % 8 = 0 ∧ (6 + 1) % 8 = 7 := by decide

theorem seven_lt : 6 + 1 < cfg0.N := lt_of_lt_of_eq (show 7 < 8 by decide) N_0.symm

theorem final_states : Value.G4 m c = ends (dts m c) (us m c) (bcs m c) (logs m c) := by
  rw [Value.G4_last, ← Value.outsAt0_sweep m c 7 seven_lt]
  funext i
  rw [eq_ix3 i]
  exact (finished m c 6 seven_lt (Nat.lt_succ_self 6) end_of.1 end_of.2).1 (i 0) (i 1) (i 2)

theorem final_times : Value.G5 m c = times (dts m c) := by
  rw [Value.G5_last, ← Value.outsAt0_sweep m c 7 seven_lt]
  funext i
  rw [eq_ix2 i]
  exact (finished m c 6 seven_lt (Nat.lt_succ_self 6) end_of.1 end_of.2).2 (i 0) (i 1)

end Cert.Kernel5Ideal.Own

end
-- ==== Proof.Pass1Ref.lean ====
/- The reference of the call that runs every chunk from nothing: its loop holds the recurrence's state and the time passed. -/
module

public import proofs.«01_k».proof.Proof.Scan
public import proofs.«01_k».proof.Proof.Gen.Reference5Ideal.StepRun

@[expose] public section

set_option maxRecDepth 16384

noncomputable section

namespace Cert.Reference5Ideal.Plain

open Idealize.ShloMosaic Cert.Reference5Ideal Cert.Reference5Ideal.Step Cert.Spec

variable (x0 x1 : Cube 128 128 128) (x2 : Cube 128 128 8) (x3 : Mat 128 4)

/-- The loop's values before trip `n`. -/
def plain (n : ℕ) : State Ideal where
  main_v7_5 := fun i => state x0 x1 x2 x3 (i 2) (i 0) (i 1) 0 n
  main_v7_6 := fun i => passed x0 (i 0) (i 1) n
  main_v7_0 := A_main_v4 (F := Ideal) x0 x1 x2 x3
  main_v7_1 := A_main_v5 (F := Ideal) x0 x1 x2 x3
  main_v7_2 := A_main_v6 (F := Ideal) x0 x1 x2 x3
  main_v7_3 := A_main_v1 (F := Ideal) x0 x1 x2 x3

theorem init_eq : plain x0 x1 x2 x3 0 = init (F := Ideal) x0 x1 x2 x3 := by
  simp only [plain, init, State.mk.injEq, and_true, true_and]
  constructor
  · funext i
    idx_vars i
    pointwise [K_main_v2, K_main_cst]
    rfl
  · funext i
    idx_vars i
    pointwise [K_main_v3, K_main_cst_0]
    rfl

theorem b3_apply {n : ℕ} (hn : n < 128) (k h : Fin 128) :
    b3 (F := Ideal) n (plain x0 x1 x2 x3 n) (ix2 k h) = x0 (ix3 k (clock n) h) := by
  pointwise [b3]
  unfold b2
  rw [trip_slice _ _ _ hn (toInt_ofNat_of_lt (by omega)) rfl rfl, clock_of_lt hn]
  pointwise [plain, A_main_v4]

theorem b7_apply {n : ℕ} (hn : n < 128) (k h : Fin 128) :
    b7 (F := Ideal) n (plain x0 x1 x2 x3 n) (ix2 k h) = x1 (ix3 k (clock n) h) := by
  pointwise [b7]
  unfold b6
  rw [trip_slice _ _ _ hn (toInt_ofNat_of_lt (by omega)) rfl rfl, clock_of_lt hn]
  pointwise [plain, A_main_v5]

theorem b11_apply {n : ℕ} (hn : n < 128) (k : Fin 128) (j : Fin 8) :
    b11 (F := Ideal) n (plain x0 x1 x2 x3 n) (ix2 k j) = x2 (ix3 k (clock n) j) := by
  pointwise [b11]
  unfold b10
  rw [trip_slice _ _ _ hn (toInt_ofNat_of_lt (by omega)) rfl rfl, clock_of_lt hn]
  pointwise [plain, A_main_v6]

theorem next_state {n : ℕ} (hn : n < 128) (k h : Fin 128) (j : Fin 4) :
    b25 (F := Ideal) n (plain x0 x1 x2 x3 n) (ix3 k h j) = state x0 x1 x2 x3 j k h 0 (n + 1) := by
  pointwise [b25, b24, b23, b22, b21, b20, b19, b18, b17, b16, b15, b14, b13, b12]
  simp only [b3_apply _ _ _ _ hn, b7_apply _ _ _ _ hn, b11_apply _ _ _ _ hn, Cert.Spec.state, Cert.Spec.advance, Cert.Spec.rate]
  pointwise [plain, A_main_v1, A_main_v0]

theorem next_passed {n : ℕ} (hn : n < 128) (k h : Fin 128) :
    b26 (F := Ideal) n (plain x0 x1 x2 x3 n) (ix2 k h) = passed x0 k h (n + 1) := by
  pointwise [b26]
  simp only [b3_apply _ _ _ _ hn, passed]
  rfl

theorem step_eq {n : ℕ} (hn : n < 128) : plain x0 x1 x2 x3 (n + 1) = step n (plain x0 x1 x2 x3 n) := by
  unfold Step.step
  conv_lhs => unfold plain
  rw [State.mk.injEq]
  refine ⟨?_, ?_, rfl, rfl, rfl, rfl⟩
  · funext i
    idx_vars i
    rw [next_state _ _ _ _ hn]
  · funext i
    idx_vars i
    rw [next_passed _ _ _ _ hn]

/-- The loop's values, going on by the loop's own trip after its last. -/
def iter (n : ℕ) : State Ideal := Nat.rec (plain x0 x1 x2 x3 0) (fun n s => step n s) n

theorem iter_eq : ∀ n, n ≤ 128 → iter x0 x1 x2 x3 n = plain x0 x1 x2 x3 n
  | 0, _ => rfl
  | n + 1, h => by
    rw [step_eq x0 x1 x2 x3 (by omega), ← iter_eq n (by omega)]
    rfl

theorem ends_eq : R_main_v8 (F := Ideal) (iter x0 x1 x2 x3 128) = ends x0 x1 x2 x3 := by
  rw [iter_eq _ _ _ _ _ le_rfl]
  funext i
  idx_vars i
  pointwise [R_main_v8]
  rfl

theorem times_eq : (iter x0 x1 x2 x3 128).main_v7_6 = times x0 := by
  rw [iter_eq _ _ _ _ _ le_rfl]
  rfl

/-- Every run of the reference ends with the state each chunk ends with and the time it takes, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = ends (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v7_6) = times (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ends_eq _ _ _ _), (h c).2.1.trans (times_eq _ _ _ _), (h c).2.2⟩)
    (StepRun.run_iter m ρ (fun c => iter (m ((c.tc : Thread nD τ).loc main_arg0)) (m ((c.tc : Thread nD τ).loc main_arg1))
      (m ((c.tc : Thread nD τ).loc main_arg2)) (m ((c.tc : Thread nD τ).loc main_arg3)))
      (fun c => init_eq _ _ _ _) (fun _ _ => rfl))

end Cert.Reference5Ideal.Plain

end
-- ==== Proof.Carry.lean ====
/- What a chunk starts from: the states the chunks before it end with, decayed over the chunks between.  Three ways to it:
   chunk by chunk, by doubling, and as one sum. -/
module

public import proofs.«01_k».proof.Proof.Scan

@[expose] public section

noncomputable section

namespace Cert.Spec

open Idealize.ShloMosaic

variable (e x : ℕ → EReal)

/-- The state before chunk `b` when the last `n` chunks before it start from nothing: chunk `b` multiplies by `e b`, adds `x b`. -/
def window : ℕ → ℕ → EReal
  | 0, _ => 0
  | _ + 1, 0 => 0
  | n + 1, b + 1 => x b + e b * window n b

/-- What the last `n` chunks before chunk `b` multiply by. -/
def factor : ℕ → ℕ → EReal
  | 0, _ => 1
  | _ + 1, 0 => 1
  | n + 1, b + 1 => e b * factor n b

theorem window_zero : ∀ n, window e x n 0 = 0
  | 0 => rfl
  | _ + 1 => rfl

theorem factor_zero : ∀ n, factor e n 0 = 1
  | 0 => rfl
  | _ + 1 => rfl

variable {e} in
/-- Two windows side by side: the earlier one's state, decayed, adds to the later one's. -/
theorem window_add (he : ∀ c, 0 ≤ e c ∧ e c ≠ ⊤) (k : ℕ) : ∀ n b, window e x (n + k) b = window e x n b + factor e n b * window e x k (b - n)
  | 0, b => by
    rw [Nat.zero_add, Nat.sub_zero]
    show _ = 0 + 1 * _
    rw [one_mul, zero_add]
  | n + 1, 0 => by
    rw [Nat.zero_sub, window_zero, window_zero, window_zero, mul_zero, add_zero]
  | n + 1, b + 1 => by
    rw [Nat.add_right_comm, Nat.add_sub_add_right]
    show x b + e b * window e x (n + k) b = (x b + e b * window e x n b) + (e b * factor e n b) * _
    rw [window_add he k n b, EReal.left_distrib_of_nonneg_of_ne_top (he b).1 (he b).2, add_assoc, mul_assoc]

theorem factor_add (k : ℕ) : ∀ n b, factor e (n + k) b = factor e n b * factor e k (b - n)
  | 0, b => by
    rw [Nat.zero_add, Nat.sub_zero]
    show _ = 1 * _
    rw [one_mul]
  | n + 1, 0 => by
    rw [Nat.zero_sub, factor_zero, factor_zero, factor_zero, one_mul]
  | n + 1, b + 1 => by
    rw [Nat.add_right_comm, Nat.add_sub_add_right]
    show e b * factor e (n + k) b = (e b * factor e n b) * _
    rw [factor_add k n b, mul_assoc]

/-- Doubling: every step adds to a chunk's window the window as far back as the window is long. -/
def sweep : ℕ → (ℕ → EReal) × (ℕ → EReal)
  | 0 => (window e x 1, factor e 1)
  | i + 1 => (fun b => (sweep i).1 b + (sweep i).2 b * (sweep i).1 (b - 2 ^ i), fun b => (sweep i).2 b * (sweep i).2 (b - 2 ^ i))

theorem sweep_zero : ∀ i, (sweep e x i).1 0 = 0 ∧ (sweep e x i).2 0 = 1
  | 0 => ⟨rfl, rfl⟩
  | i + 1 => by
    show (sweep e x i).1 0 + (sweep e x i).2 0 * (sweep e x i).1 (0 - 2 ^ i) = 0 ∧ (sweep e x i).2 0 * (sweep e x i).2 (0 - 2 ^ i) = 1
    rw [Nat.zero_sub, (sweep_zero i).1, (sweep_zero i).2, mul_zero, add_zero, one_mul]
    exact ⟨rfl, rfl⟩

variable {e} in
theorem sweep_eq (he : ∀ c, 0 ≤ e c ∧ e c ≠ ⊤) : ∀ i b, (sweep e x i).1 b = window e x (2 ^ i) b ∧ (sweep e x i).2 b = factor e (2 ^ i) b
  | 0, _ => ⟨rfl, rfl⟩
  | i + 1, b => by
    show (sweep e x i).1 b + (sweep e x i).2 b * (sweep e x i).1 (b - 2 ^ i) = _ ∧ (sweep e x i).2 b * (sweep e x i).2 (b - 2 ^ i) = _
    rw [(sweep_eq he i b).1, (sweep_eq he i b).2, (sweep_eq he i _).1, (sweep_eq he i _).2, pow_succ, mul_two, window_add x he, factor_add]
    exact ⟨rfl, rfl⟩

/-- The states the chunks start from, by seven doublings. -/
def entering (A : Mat 128 4) (hend : Cube 4 128 128) (stot : Mat 128 128) : Cube 4 128 128 := fun i =>
  (sweep (fun c => Ideal.exp (stot (ix2 (clock c) (i 2)) * rate A (i 0) (i 2))) (fun c => hend (ix3 (i 0) (clock c) (i 2))) 7).1 (i 1).val

/-- The time from the end of chunk `b` to the start of chunk `a`. -/
def span (s : ℕ → EReal) (b a : ℕ) : EReal := ∑ k ∈ Finset.Ico (b + 1) a, s k

/-- The whole past as one sum. -/
def past (s : ℕ → EReal) (r : EReal) (a : ℕ) : EReal := ∑ b ∈ Finset.range a, Ideal.exp (span s b a * r) * x b

theorem exp_add_of_nonpos {y z : EReal} (hy : y ≤ 0) (hz : z ≤ 0) : Ideal.exp (y + z) = Ideal.exp y * Ideal.exp z := by
  induction y with
  | bot =>
    rw [EReal.bot_add]
    show (0 : EReal) = 0 * _
    rw [zero_mul]
  | top => exact absurd hy (by decide)
  | coe y =>
    induction z with
    | bot =>
      rw [EReal.add_bot]
      show (0 : EReal) = _ * 0
      rw [mul_zero]
    | top => exact absurd hz (by decide)
    | coe z =>
      rw [← EReal.coe_add]
      show ((Real.exp (y + z) : ℝ) : EReal) = (Real.exp y : ℝ) * (Real.exp z : ℝ)
      rw [Real.exp_add, EReal.coe_mul]

theorem exp_bounds {y : EReal} (hy : y ≤ 0) : 0 ≤ Ideal.exp y ∧ Ideal.exp y ≠ ⊤ := by
  induction y with
  | bot => exact ⟨le_refl (0 : EReal), EReal.zero_ne_top⟩
  | top => exact absurd hy (by decide)
  | coe y => exact ⟨EReal.coe_nonneg.mpr (Real.exp_pos y).le, EReal.coe_ne_top _⟩

theorem span_succ (s : ℕ → EReal) {b a : ℕ} (h : b < a) : span s b (a + 1) = span s b a + s a :=
  Finset.sum_Ico_succ_top h s

theorem span_self (s : ℕ → EReal) (a : ℕ) : span s a (a + 1) = 0 := by
  unfold span
  rw [Finset.Ico_self, Finset.sum_empty]

theorem span_nonneg (s : ℕ → EReal) (hs : ∀ c, 0 ≤ s c) (b a : ℕ) : 0 ≤ span s b a := Finset.sum_nonneg fun c _ => hs c

theorem mul_rate_nonpos {t r : EReal} (ht : 0 ≤ t) (hr : r ≤ 0) : t * r ≤ 0 := EReal.mul_nonpos_iff.mpr (.inl ⟨ht, hr⟩)

theorem mul_range_sum {c : EReal} (h0 : 0 ≤ c) (ht : c ≠ ⊤) (f : ℕ → EReal) : ∀ n, c * ∑ b ∈ Finset.range n, f b = ∑ b ∈ Finset.range n, c * f b
  | 0 => mul_zero c
  | n + 1 => by
    rw [Finset.sum_range_succ, Finset.sum_range_succ, EReal.left_distrib_of_nonneg_of_ne_top h0 ht, mul_range_sum h0 ht f n]

theorem past_succ (s : ℕ → EReal) (hs : ∀ c, 0 ≤ s c) {r : EReal} (hr : r ≤ 0) (a : ℕ) :
    past x s r (a + 1) = x a + Ideal.exp (s a * r) * past x s r a := by
  have hb := exp_bounds (mul_rate_nonpos (hs a) hr)
  unfold past
  rw [Finset.sum_range_succ, span_self, zero_mul, add_comm, mul_range_sum hb.1 hb.2]
  congr 1
  · show (Real.exp 0 : ℝ) * x a = x a
    rw [Real.exp_zero, EReal.coe_one, one_mul]
  · refine Finset.sum_congr rfl fun b h => ?_
    rw [span_succ s (Finset.mem_range.mp h), EReal.right_distrib_of_nonneg (span_nonneg s hs b a) (hs a),
      exp_add_of_nonpos (mul_rate_nonpos (span_nonneg s hs b a) hr) (mul_rate_nonpos (hs a) hr), mul_comm (Ideal.exp (span s b a * r)), mul_assoc]

/-- Enough chunks back, a window is the whole past. -/
theorem window_eq_past (s : ℕ → EReal) (hs : ∀ c, 0 ≤ s c) {r : EReal} (hr : r ≤ 0) :
    ∀ n b, b ≤ n → window (fun c => Ideal.exp (s c * r)) x n b = past x s r b
  | 0, b, h => by
    obtain rfl : b = 0 := by omega
    rfl
  | n + 1, 0, _ => rfl
  | n + 1, b + 1, h => by
    rw [past_succ x s hs hr, ← window_eq_past s hs hr n b (by omega)]
    rfl

theorem rate_nonpos (A : Mat 128 4) (j : Fin 4) (h : Fin 128) : rate A j h ≤ 0 := by
  unfold rate
  rw [EReal.neg_le, neg_zero]
  induction A (ix2 h j) with
  | bot => exact le_refl (0 : EReal)
  | top => exact le_top
  | coe y => exact EReal.coe_nonneg.mpr (Real.exp_pos y).le

end Cert.Spec

end
-- ==== Proof.Outputs.lean ====
/- What a scan's second call makes of its arguments: what each chunk starts from as one sum, and the output at each time. -/
module

public import proofs.«01_k».proof.Proof.Carry
public import Idealize.ShloMosaic.Lib.Pipeline.Value

@[expose] public section

noncomputable section

namespace Cert.Spec

open Idealize.ShloMosaic

/-- The same states, each as one sum over the chunks before. -/
def summed (A : Mat 128 4) (hend : Cube 4 128 128) (stot : Mat 128 128) : Cube 4 128 128 := fun i =>
  past (fun b => hend (ix3 (i 0) (clock b) (i 2))) (fun b => stot (ix2 (clock b) (i 2))) (rate A (i 0) (i 2)) (i 1).val

/-- Where no chunk takes a negative time, doubling and the one sum give the same states. -/
theorem entering_eq (A : Mat 128 4) (hend : Cube 4 128 128) (stot : Mat 128 128) (hs : ∀ k h : Fin 128, 0 ≤ stot (ix2 k h)) :
    entering A hend stot = summed A hend stot := by
  funext i
  have hr := rate_nonpos A (i 0) (i 2)
  refine (sweep_eq _ (fun c => exp_bounds (mul_rate_nonpos (hs (clock c) (i 2)) hr)) 7 (i 1).val).1.trans ?_
  have hb : (i 1).val < 128 := (i 1).isLt
  exact window_eq_past (fun b => hend (ix3 (i 0) (clock b) (i 2))) (fun b => stot (ix2 (clock b) (i 2))) (fun c => hs (clock c) (i 2)) hr
    (2 ^ 7) (i 1).val (by omega)

/-- The output of chunk `k` at time `n`: the states after that step, each coupling weighed. -/
def weighed (dt u : Cube 128 128 128) (bc : Cube 128 128 8) (A : Mat 128 4) (H : Cube 4 128 128) (k h : Fin 128) (n : ℕ) : EReal :=
  state dt u bc A 0 k h (H (ix3 0 k h)) (n + 1) * bc (ix3 k (clock n) 4) + state dt u bc A 1 k h (H (ix3 1 k h)) (n + 1) * bc (ix3 k (clock n) 5)
    + state dt u bc A 2 k h (H (ix3 2 k h)) (n + 1) * bc (ix3 k (clock n) 6) + state dt u bc A 3 k h (H (ix3 3 k h)) (n + 1) * bc (ix3 k (clock n) 7)

/-- The output of every chunk at every time. -/
def outputs (dt u : Cube 128 128 128) (bc : Cube 128 128 8) (A : Mat 128 4) (H : Cube 4 128 128) : Cube 128 128 128 := fun i =>
  weighed dt u bc A H (i 0) (i 2) (i 1).val

/-- A sum over the chunks before one of them. -/
theorem sum_before (f : ℕ → EReal) {a : ℕ} (ha : a ≤ 128) :
    ∑ b : Fin 128, (if b.val < a then f b.val else 0) = ∑ b ∈ Finset.range a, f b := by
  rw [Fin.sum_univ_eq_sum_range (fun b => if b < a then f b else 0) 128, ← Finset.sum_filter]
  refine Finset.sum_congr (Finset.ext fun b => ?_) fun _ _ => rfl
  rw [Finset.mem_filter, Finset.mem_range, Finset.mem_range]
  omega

/-- A sum over the chunks between two of them. -/
theorem sum_between (f : ℕ → EReal) (b : ℕ) {a : ℕ} (ha : a ≤ 128) :
    ∑ d : Fin 128, (if b < d.val ∧ d.val < a then f d.val else 0) = span f b a := by
  rw [Fin.sum_univ_eq_sum_range (fun d => if b < d ∧ d < a then f d else 0) 128, ← Finset.sum_filter]
  refine Finset.sum_congr (Finset.ext fun d => ?_) fun _ _ => rfl
  rw [Finset.mem_filter, Finset.mem_range, Finset.mem_Ico]
  omega

/-- A loop's write of trip `n` into an array whose first axis counts the trips. -/
theorem trip_put (x : Cube 128 128 128) (u : Cube 1 128 128) (start : Fin 3 → Int)
    (w : (⟨3, ![128, 128, 128]⟩ : Shape).Slices (fun _ => 0) ⟨3, ![1, 128, 128]⟩) {n : ℕ} (hn : n < 128)
    (h0 : start 0 = n) (h1 : start 1 = 0) (h2 : start 2 = 0) (t k e : Fin 128) :
    Host.dynamicUpdateSlice x u start w (ix3 t k e) = if t.val = n then u (ix3 0 k e) else x (ix3 t k e) := by
  have hoff : (⟨3, ![128, 128, 128]⟩ : Shape).Slices ![n, 0, 0] ⟨3, ![1, 128, 128]⟩ := by
    refine ⟨rfl, fun b => ?_⟩
    fin_cases b
    · show n + 1 ≤ 128
      omega
    · show 0 + 128 ≤ 128
      omega
    · show 0 + 128 ≤ 128
      omega
  rw [Host.dynamicUpdateSlice_eq_updateSlice x u start w ![n, 0, 0] (fun b => by
    fin_cases b
    · show (min (max (start 0) 0) ((128 - 1 : ℕ) : Int)).toNat = n
      rw [h0]
      omega
    · show (min (max (start 1) 0) ((128 - 128 : ℕ) : Int)).toNat = 0
      rw [h1]
      rfl
    · show (min (max (start 2) 0) ((128 - 128 : ℕ) : Int)).toNat = 0
      rw [h2]
      rfl) hoff]
  unfold updateSlice
  by_cases ht : t.val = n
  · rw [if_pos ht, dif_pos (fun b => by
      fin_cases b
      · show n ≤ t.val ∧ t.val < n + 1
        omega
      · exact ⟨Nat.zero_le _, by show k.val < 0 + 128; have := k.isLt; omega⟩
      · exact ⟨Nat.zero_le _, by show e.val < 0 + 128; have := e.isLt; omega⟩)]
    refine congrArg u (funext fun b => ?_)
    fin_cases b
    · exact Fin.ext (by show t.val - n = 0; omega)
    · exact Fin.ext (Nat.sub_zero k.val)
    · exact Fin.ext (Nat.sub_zero e.val)
  · rw [if_neg ht, dif_neg fun hin => ht (by
      have h : n ≤ t.val ∧ t.val < n + 1 := hin 0
      omega)]

end Cert.Spec

end
-- ==== Proof.Pass2.lean ====
/- One grid point of the call that runs every chunk from the state the chunks before it leave: sixteen steps of the recurrence. -/
module

public import proofs.«01_k».proof.Proof.Carry
public import proofs.«01_k».proof.Proof.Pass1
public import proofs.«01_k».proof.Proof.Gen.Kernel6Ideal.Value

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

/-- Which block each window reads or writes at grid point `t`. -/
theorem places : ∀ t : Fin grid0.N, win0_0.index t = ![0, t.val, 0] ∧ win0_1.index t = ![0, t.val, 0]
    ∧ win0_2.index t = ![0, t.val, 0] ∧ win0_3.index t = ![0, 0]
    ∧ win0_4.index t = ![0, 0, 0] ∧ win0_5.index t = ![0, 0] := by decide +kernel

/-- The arguments. -/
abbrev dts : Cube 128 128 128 := m ((c : Thread nD τ).loc main_arg0)
abbrev us : Cube 128 128 128 := m ((c : Thread nD τ).loc main_arg1)
abbrev bcs : Cube 128 128 8 := m ((c : Thread nD τ).loc main_arg2)
abbrev logs : Mat 128 4 := m ((c : Thread nD τ).loc main_arg3)
abbrev hends : Cube 4 128 128 := m ((c : Thread nD τ).loc main_arg4)
abbrev stots : Mat 128 128 := m ((c : Thread nD τ).loc main_arg5)

theorem point_lt (t : Fin cfg0.N) : t.val < 8 := lt_of_lt_of_eq t.isLt N_0

theorem time_lt (t : Fin cfg0.N) (i : Fin 16) : 16 * t.val + i.val < 128 := by
  have := point_lt t
  have := i.isLt
  omega

theorem clock_step (t : Fin cfg0.N) (i : Fin 16) : clock (16 * t.val + i.val) = ⟨16 * t.val + i.val, time_lt t i⟩ :=
  clock_of_lt _

theorem read_dt (t : Fin cfg0.N) (k h : Fin 128) (i : Fin 16) :
    (iblk m c 0 t : Vec Ideal S128x16x128 .f32) (ix3 k i h) = dts m c (ix3 k (clock (16 * t.val + i.val)) h) := by
  rw [clock_step]
  blk_ext [iblk, V, places t]

theorem read_u (t : Fin cfg0.N) (k h : Fin 128) (i : Fin 16) :
    (iblk m c 1 t : Vec Ideal S128x16x128 .f32) (ix3 k i h) = us m c (ix3 k (clock (16 * t.val + i.val)) h) := by
  rw [clock_step]
  blk_ext [iblk, V, places t]

theorem read_bc (t : Fin cfg0.N) (k : Fin 128) (i : Fin 16) (j : Fin 8) :
    (iblk m c 2 t : Vec Ideal S128x16x8 .f32) (ix3 k i j) = bcs m c (ix3 k (clock (16 * t.val + i.val)) j) := by
  rw [clock_step]
  blk_ext [iblk, V, places t]

theorem read_rate (t : Fin cfg0.N) (j : Fin 4) (h : Fin 128) :
    (iblk m c 3 t : Vec Ideal S4x128 .f32) (ix2 j h) = rate (logs m c) j h := by
  have he : (win0_3.blk t).view.emb (ix2 j h) = ix2 j h := by blk_ext [places t]
  show V m c main_v2 ((win0_3.blk t).view.emb (ix2 j h)) = _
  rw [he]
  entry_read
  pointwise
  rfl

theorem read_hend (t : Fin cfg0.N) (j : Fin 4) (k h : Fin 128) :
    (iblk m c 4 t : Vec Ideal S4x128x128 .f32) (ix3 j k h) = hends m c (ix3 j k h) := by
  blk_ext [iblk, V, places t]

theorem read_stot (t : Fin cfg0.N) (k h : Fin 128) :
    (iblk m c 5 t : Vec Ideal S128x128 .f32) (ix2 k h) = stots m c (ix2 k h) := by
  blk_ext [iblk, V, places t]

/-- The states after `n` steps from the states `H`. -/
def states (H : Cube 4 128 128) (n : ℕ) : Cube 4 128 128 := fun i =>
  state (dts m c) (us m c) (bcs m c) (logs m c) (i 0) (i 1) (i 2) (H i) n

end Cert.Kernel6Ideal.Own

end
-- ==== Proof.Pass2State.lean ====
/- The states the call carries over one grid point after the first: sixteen steps of the recurrence. -/
module

public import proofs.«01_k».proof.Proof.Pass2

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

theorem state_B (H : Cube 4 128 128) (t : Fin cfg0.N) (h0 : ¬t.val % 8 = 0)
    (hp : ∀ (j : Fin 4) (k h : Fin 128), (outsAt0 m c (t.val - 1) (Nat.lt_of_le_of_lt (Nat.sub_le _ _) t.isLt)).2 (ix3 j k h)
      = states m c H (16 * t.val) (ix3 j k h)) (j : Fin 4) (k h : Fin 128) :
    (outsAt0 m c t.val t.isLt).2 (ix3 j k h) = states m c H (16 * t.val + 16) (ix3 j k h) := by
  rw [Gen.outsAt0_B m c t h0]
  frame_open
  simp (disch := decide) only [↓ View.readCov_skip, ↓ View.readCov_cons_toLoadRect, ↓ View.readCov_fill]
  frame_out
  simp only [read_unread_whole]
  refine four_rows _ _ _ _ _ (states m c H (16 * t.val + 16)) (fun k h => ?_) (fun k h => ?_) (fun k h => ?_) (fun k h => ?_) j k h
  all_goals
    pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269,
    k0_pay270, k0_pay271, k0_pay272, k0_pay273, k0_pay274, k0_pay275]
    simp only [read_dt, read_u, read_bc, read_rate]
    rw [hp]
    rfl

end Cert.Kernel6Ideal.Own

end
-- ==== Proof.Pass2Col.lean ====
/- The output block of one grid point is written column by column. -/
module

public import proofs.«01_k».proof.Proof.Pass2

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

theorem place_col {g : ℕ} (inb) (k h : Fin 128) (hg : g < 16) :
    (Rect.unit (s := S128x16x128) ![0, g, 0] ![128, 1, 128] inb).emb (ix3 k 0 h) = ix3 k ⟨g, hg⟩ h := by
  funext a
  fin_cases a
  · exact Fin.ext (by show 0 + 1 * k.val = k.val; omega)
  · exact Fin.ext (Nat.add_zero g)
  · exact Fin.ext (by show 0 + 1 * h.val = h.val; omega)

/-- An entry of the column written last. -/
theorem col_hit {g : ℕ} (inb) (w : (Rect.unit (s := S128x16x128) ![0, g, 0] ![128, 1, 128] inb).shape.Idx → Elt Ideal .f32)
    (L : List (View.Piece (Elt Ideal) S128x16x128 .f32)) (k h : Fin 128) (i : Fin 16) (hi : i.val = g) :
    View.canon (⟨Rect.unit (s := S128x16x128) ![0, g, 0] ![128, 1, 128] inb, w⟩ :: L) (ix3 k i h)
      = w (ix3 k 0 h) := by
  subst hi
  rw [← place_col inb k h i.isLt]
  exact View.canon_cons_emb _ _ _ _

/-- An entry of another column. -/
theorem col_skip {g : ℕ} (inb) (w : (Rect.unit (s := S128x16x128) ![0, g, 0] ![128, 1, 128] inb).shape.Idx → Elt Ideal .f32)
    (L : List (View.Piece (Elt Ideal) S128x16x128 .f32)) (k h : Fin 128) (i : Fin 16) (hi : i.val ≠ g) :
    View.canon (⟨Rect.unit (s := S128x16x128) ![0, g, 0] ![128, 1, 128] inb, w⟩ :: L) (ix3 k i h)
      = View.canon L (ix3 k i h) := by
  refine View.canon_cons_of_not_mem _ _ fun hm => hi ?_
  have h1 := ((Rect.mem_set_unit (inb := inb)).mp hm) 1
  have h2 : g ≤ i.val ∧ i.val < g + 1 := h1
  omega

/-- The output at time `n`: the states after it, each coupling weighed by what the call is given. -/
def shown (H : Cube 4 128 128) (k h : Fin 128) (n : ℕ) : EReal :=
  states m c H (n + 1) (ix3 0 k h) * bcs m c (ix3 k (clock n) 4) + states m c H (n + 1) (ix3 1 k h) * bcs m c (ix3 k (clock n) 5)
    + states m c H (n + 1) (ix3 2 k h) * bcs m c (ix3 k (clock n) 6) + states m c H (n + 1) (ix3 3 k h) * bcs m c (ix3 k (clock n) 7)

end Cert.Kernel6Ideal.Own

end
-- ==== Proof.Pass2Out.lean ====
/- The output block of a grid point after the first. -/
module

public import proofs.«01_k».proof.Proof.Pass2Col

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

set_option maxHeartbeats 8000000 in
theorem out_B (H : Cube 4 128 128) (t : Fin cfg0.N) (h0 : ¬t.val % 8 = 0)
    (hp : ∀ (j : Fin 4) (k h : Fin 128), (outsAt0 m c (t.val - 1) (Nat.lt_of_le_of_lt (Nat.sub_le _ _) t.isLt)).2 (ix3 j k h)
      = states m c H (16 * t.val) (ix3 j k h)) (k h : Fin 128) (i : Fin 16) :
    (outsAt0 m c t.val t.isLt).1 (ix3 k i h) = shown m c H k h (16 * t.val + i.val) := by
  rw [Gen.outsAt0_B m c t h0]
  frame_open
  simp (disch := decide) only [↓ View.readCov_skip, ↓ View.readCov_cons_toLoadRect, ↓ View.readCov_fill]
  frame_out
  simp only [read_unread_whole]
  fin_cases i
  all_goals
    simp (disch := decide) only [↓ col_skip, ↓ col_hit]
    pointwise [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269,
    k0_pay270, k0_pay271, k0_pay272, k0_pay273, k0_pay274, k0_pay275]
    simp only [read_dt, read_u, read_bc, read_rate, hp]
    rfl

end Cert.Kernel6Ideal.Own

end
-- ==== Proof.Doubling.lean ====
/- The call's first grid point: the states the chunks start from, by seven doublings on shifted copies. -/
module

public import proofs.«01_k».proof.Proof.Carry
public import proofs.«01_k».proof.Proof.Gen.Kernel6Ideal.Value
public import Idealize.ShloMosaic.Lib.Pipeline.ValueKit
public import Idealize.ShloMosaic.Lib.Pipeline.Value

@[expose] public section

set_option maxRecDepth 16384

noncomputable section

namespace Cert.Kernel6Ideal.Own

open Idealize.ShloMosaic Idealize.ShloMosaic.TcCoe Cert.Kernel6Ideal Cert.Kernel6Ideal.Gen Cert.Spec

/-- A copy moved `n` rows down, the rows it leaves filled with `z`. -/
theorem shifted {n r : ℕ} (hr : n + r = 128) (z : Ideal .f32) (X : FVec Ideal S128x128 .f32)
    (ho : S128x128.Slices ![0, 0] ⟨2, ![r, 128]⟩) (hc : Shape.Concatenates [⟨2, ![n, 128]⟩, ⟨2, ![r, 128]⟩] S128x128 0) (a h : Fin 128) :
    concatenate S128x128 0 [⟨⟨2, ![n, 128]⟩, broadcast ⟨2, ![n, 128]⟩ z⟩, ⟨⟨2, ![r, 128]⟩, extractStridedSlice ⟨2, ![r, 128]⟩ ![0, 0] X ho⟩] hc (ix2 a h)
      = if a.val < n then z else X (ix2 (clock (a.val - n)) h) := by
  by_cases hn : a.val < n
  · rw [if_pos hn, concatenate_pair_apply_left 0 _ _ hc (ix2 a h) rfl (ix2 ⟨a.val, hn⟩ h) (fun b => by fin_cases b <;> rfl)]
    rfl
  · have ha := a.isLt
    rw [if_neg hn, clock_of_lt (show a.val - n < 128 by omega), concatenate_pair_apply_right 0 _ _ hc (ix2 a h) rfl rfl
      (ix2 ⟨a.val - n, by omega⟩ h) (fun b hb => by
        fin_cases b
        · exact absurd rfl hb
        · rfl) (by show a.val - n + n = a.val; omega)]
    refine congrArg X (funext fun b => ?_)
    fin_cases b
    · exact Fin.ext (Nat.zero_add _)
    · exact Fin.ext (Nat.zero_add _)

/-- `X` and `E` are the windows and factors after `i` doublings, row `a` being the chunk before chunk `a + 1`. -/
structure Level (i : ℕ) (e x : Fin 128 → ℕ → EReal) (X E : FVec Ideal S128x128 .f32) : Prop where
  state : ∀ a h : Fin 128, X (ix2 a h) = (sweep (e h) (x h) i).1 (a.val + 1)
  factor : ∀ a h : Fin 128, E (ix2 a h) = (sweep (e h) (x h) i).2 (a.val + 1)

theorem bits_zero : (Scalar.ofBits .f32 0x00000000#32 : Ideal .f32) = (0 : EReal) := Ideal.ofBits_zero_f32

theorem bits_one : (Scalar.ofBits .f32 0x3F800000#32 : Ideal .f32) = (1 : EReal) := Ideal.ofBits_one_f32

theorem Level.next {i n r : ℕ} {e x : Fin 128 → ℕ → EReal} {X E : FVec Ideal S128x128 .f32} (l : Level i e x X E) (hn : n = 2 ^ i)
    (hr : n + r = 128) (ho ho' : S128x128.Slices ![0, 0] ⟨2, ![r, 128]⟩)
    (hc hc' : Shape.Concatenates [⟨2, ![n, 128]⟩, ⟨2, ![r, 128]⟩] S128x128 0) :
    Level (i + 1) e x
      (addf X (mulf E (concatenate S128x128 0 [⟨⟨2, ![n, 128]⟩, broadcast ⟨2, ![n, 128]⟩ (Scalar.ofBits .f32 0x00000000#32)⟩,
        ⟨⟨2, ![r, 128]⟩, extractStridedSlice ⟨2, ![r, 128]⟩ ![0, 0] X ho⟩] hc)))
      (mulf E (concatenate S128x128 0 [⟨⟨2, ![n, 128]⟩, broadcast ⟨2, ![n, 128]⟩ (Scalar.ofBits .f32 0x3F800000#32)⟩,
        ⟨⟨2, ![r, 128]⟩, extractStridedSlice ⟨2, ![r, 128]⟩ ![0, 0] E ho'⟩] hc')) := by
  have back : ∀ a : Fin 128, ¬a.val < n → (clock (a.val - n)).val + 1 = a.val + 1 - 2 ^ i := fun a ha => by
    have := a.isLt
    rw [clock_of_lt (show a.val - n < 128 by omega), ← hn]
    show a.val - n + 1 = _
    omega
  have none : ∀ a : Fin 128, a.val < n → a.val + 1 - 2 ^ i = 0 := fun a ha => by
    rw [← hn]
    omega
  constructor
  · intro a h
    refine (congrArg (fun y : EReal => X (ix2 a h) + E (ix2 a h) * y) (shifted hr (Scalar.ofBits .f32 0x00000000#32) X ho hc a h)).trans ?_
    show X (ix2 a h) + E (ix2 a h) * (if a.val < n then _ else X (ix2 (clock (a.val - n)) h))
      = (sweep (e h) (x h) i).1 (a.val + 1) + (sweep (e h) (x h) i).2 (a.val + 1) * (sweep (e h) (x h) i).1 (a.val + 1 - 2 ^ i)
    rw [l.state, l.factor]
    by_cases ha : a.val < n
    · rw [if_pos ha, none a ha, (sweep_zero _ _ i).1, bits_zero]
    · rw [if_neg ha, l.state, back a ha]
  · intro a h
    refine (congrArg (fun y : EReal => E (ix2 a h) * y) (shifted hr (Scalar.ofBits .f32 0x3F800000#32) E ho' hc' a h)).trans ?_
    show E (ix2 a h) * (if a.val < n then _ else E (ix2 (clock (a.val - n)) h))
      = (sweep (e h) (x h) i).2 (a.val + 1) * (sweep (e h) (x h) i).2 (a.val + 1 - 2 ^ i)
    rw [l.factor]
    by_cases ha : a.val < n
    · rw [if_pos ha, none a ha, (sweep_zero _ _ i).2, bits_one]
    · rw [if_neg ha, l.factor, back a ha]

theorem one_plane (y : FVec Ideal S128x128 .f32) (hs : S128x128.ShapeCasts S1x128x128) (k h : Fin 128) :
    shapeCast S1x128x128 y hs (ix3 0 k h) = y (ix2 k h) := by
  pointwise

theorem Level.last {i : ℕ} {e x : Fin 128 → ℕ → EReal} {X E : FVec Ideal S128x128 .f32} (l : Level i e x X E) (ho) (hc) (hs) (k h : Fin 128) :
    shapeCast S1x128x128 (concatenate S128x128 0 [⟨S1x128, broadcast S1x128 (Scalar.ofBits .f32 0x00000000#32 : Ideal .f32)⟩,
      ⟨S127x128, extractStridedSlice S127x128 ![0, 0] X ho⟩] hc) hs (ix3 0 k h) = (sweep (e h) (x h) i).1 k.val := by
  refine (one_plane _ hs k h).trans ((shifted (n := 1) (r := 127) rfl _ X ho hc k h).trans ?_)
  have := k.isLt
  by_cases hk : k.val < 1
  · rw [if_pos hk, show k.val = 0 by omega, (sweep_zero _ _ i).1, bits_zero]
  · rw [if_neg hk, l.state, clock_of_lt (show k.val - 1 < 128 by omega)]
    show (sweep (e h) (x h) i).1 (k.val - 1 + 1) = _
    rw [show k.val - 1 + 1 = k.val by omega]

/-- What the call makes of the times, the rates and the end states. -/
def decays (s : Vec Ideal S128x128 .f32) (a : Vec Ideal S1x128 .f32) (h : Fin 128) : ℕ → EReal := fun c =>
  Ideal.exp (s (ix2 (clock c) h) * a (ix2 0 h))

def lasts (x : Vec Ideal S1x128x128 .f32) (h : Fin 128) : ℕ → EReal := fun c => x (ix3 0 (clock c) h)

variable (s : Vec Ideal S128x128 .f32) (a : Vec Ideal S1x128 .f32) (x : Vec Ideal S1x128x128 .f32)

theorem decays_eq (h : Fin 128) : decays s a h = fun c => Ideal.exp (s (ix2 (clock c) h) * a (ix2 0 h)) := rfl

theorem lasts_eq (h : Fin 128) : lasts x h = fun c => x (ix3 0 (clock c) h) := rfl

theorem base : Level 0 (decays s a) (lasts x) (shapeCast S128x128 x shapeCasts_S1x128x128_S128x128) (k0_pay3 (F := Ideal) s a) := by
  constructor
  · intro k h
    show _ = lasts x h k.val + decays s a h k.val * 0
    rw [mul_zero, add_zero]
    pointwise [lasts]
    rw [clock_of_lt k.isLt]
  · intro k h
    show _ = decays s a h k.val * 1
    rw [mul_one]
    pointwise [k0_pay3, decays]
    rw [clock_of_lt k.isLt]

theorem enter0 (k h : Fin 128) : k0_pay9 (F := Ideal) (k0_pay7 s a x) (k0_pay8 s a) (Scalar.ofBits .f32 0x00000000#32) (ix3 0 k h)
    = (sweep (decays s a h) (lasts x h) 7).1 k.val := by
  have b := (((((((base s a x).next (n := 1) (r := 127) rfl rfl slices_S128x128_o0_0_S127x128 slices_S128x128_o0_0_S127x128 concatenates_S1x128_S127x128_S128x128_d0 concatenates_S1x128_S127x128_S128x128_d0).next (n := 2) (r := 126) rfl rfl
    slices_S128x128_o0_0_S126x128 slices_S128x128_o0_0_S126x128 concatenates_S2x128_S126x128_S128x128_d0 concatenates_S2x128_S126x128_S128x128_d0).next (n := 4) (r := 124) rfl rfl
    slices_S128x128_o0_0_S124x128 slices_S128x128_o0_0_S124x128 concatenates_S4x128_S124x128_S128x128_d0 concatenates_S4x128_S124x128_S128x128_d0).next (n := 8) (r := 120) rfl rfl
    slices_S128x128_o0_0_S120x128 slices_S128x128_o0_0_S120x128 concatenates_S8x128_S120x128_S128x128_d0 concatenates_S8x128_S120x128_S128x128_d0).next (n := 16) (r := 112) rfl rfl
    slices_S128x128_o0_0_S112x128 slices_S128x128_o0_0_S112x128 concatenates_S16x128_S112x128_S128x128_d0 concatenates_S16x128_S112x128_S128x128_d0).next (n := 32) (r := 96) rfl rfl
    slices_S128x128_o0_0_S96x128 slices_S128x128_o0_0_S96x128 concatenates_S32x128_S96x128_S128x128_d0 concatenates_S32x128_S96x128_S128x128_d0).next (n := 64) (r := 64) rfl rfl
    slices_S128x128_o0_0_S64x128 slices_S128x128_o0_0_S64x128 concatenates_S64x128_S64x128_S128x128_d0 concatenates_S64x128_S64x128_S128x128_d0
  exact b.last slices_S128x128_o0_0_S127x128 concatenates_S1x128_S127x128_S128x128_d0 shapeCasts_S128x128_S1x128x128 k h

theorem enter0_0 (k h : Fin 128) : k0_pay9 (F := Ideal) (k0_pay7 s a x) (k0_pay8 s a) (0 : EReal) (ix3 0 k h)
    = (sweep (decays s a h) (lasts x h) 7).1 k.val := by
  rw [← bits_zero]
  exact enter0 s a x k h

theorem enter0_1 (k h : Fin 128) : k0_pay21 (F := Ideal) (k0_pay18 (k0_pay10 s a) (k0_pay11 s a x) (k0_pay12 s a))
    (k0_pay19 (k0_pay10 s a) (k0_pay12 s a)) (k0_pay20 (k0_pay10 s a) (k0_pay11 s a x) (k0_pay12 s a)) (ix3 0 k h)
    = (sweep (decays s a h) (lasts x h) 7).1 k.val := enter0 s a x k h

theorem enter0_2 (k h : Fin 128) : k0_pay28 (F := Ideal) (k0_pay25 s a x) (k0_pay26 s a) k0_pay27 (ix3 0 k h)
    = (sweep (decays s a h) (lasts x h) 7).1 k.val := enter0 s a x k h

theorem enter0_3 (k h : Fin 128) : k0_pay38 (F := Ideal) (k0_pay35 (k0_pay29 s a) (k0_pay30 x))
    (k0_pay36 (k0_pay29 s a)) (k0_pay37 (k0_pay29 s a) (k0_pay30 x)) (ix3 0 k h)
    = (sweep (decays s a h) (lasts x h) 7).1 k.val := enter0 s a x k h

end Cert.Kernel6Ideal.Own

end
-- ==== Proof.Pass2Start.lean ====
/- At the first grid point the call starts from the states the doubling makes. -/
module

public import proofs.«01_k».proof.Proof.Pass2
public import proofs.«01_k».proof.Proof.Doubling

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

/-- At the first grid point the states the doubling makes are the states the chunks start from. -/
theorem enter_at (t : Fin cfg0.N) (h0 : t.val % 8 = 0) (j : Fin 4) (k h : Fin 128) :
    (sweep (fun n => Ideal.exp (stots m c (ix2 (clock n) h) * rate (logs m c) j h)) (fun n => hends m c (ix3 j (clock n) h)) 7).1 k.val
      = states m c (entering (logs m c) (hends m c) (stots m c)) (16 * t.val) (ix3 j k h) := by
  rw [show t.val = 0 by have := point_lt t; omega]
  rfl

set_option maxHeartbeats 1000000 in
theorem state_A (t : Fin cfg0.N) (h0 : t.val % 8 = 0) (j : Fin 4) (k h : Fin 128) :
    (outsAt0 m c t.val t.isLt).2 (ix3 j k h)
      = states m c (entering (logs m c) (hends m c) (stots m c)) (16 * t.val + 16) (ix3 j k h) := by
  rw [Gen.outsAt0_A m c t h0]
  frame_open
  simp (disch := decide) only [↓ View.readCov_skip, ↓ View.readCov_cons_toLoadRect, ↓ View.readCov_fill]
  frame_out
  refine four_rows _ _ _ _ _ (states m c _ (16 * t.val + 16)) (fun k h => ?_) (fun k h => ?_) (fun k h => ?_) (fun k h => ?_) j k h
  all_goals
    pointwise [k0_pay1, k0_pay2, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269,
    k0_pay270, k0_pay271, k0_pay272, k0_pay273, k0_pay274, k0_pay275, enter0_0, enter0_1, enter0_2, enter0_3, decays_eq, lasts_eq]
    simp only [read_dt, read_u, read_bc, read_rate, read_hend, read_stot, enter_at m c t h0]
    rfl

end Cert.Kernel6Ideal.Own

end
-- ==== Proof.Pass2First.lean ====
/- The output block of the first grid point. -/
module

public import proofs.«01_k».proof.Proof.Pass2Col
public import proofs.«01_k».proof.Proof.Pass2Start

@[expose] public section

set_option maxRecDepth 16384

noncomputable section

namespace Cert.Kernel6Ideal.Own

open Idealize.ShloMosaic Idealize.ShloMosaic.TcCoe Cert.Kernel6Ideal Cert.Kernel6Ideal.Gen Cert.Spec
open Cert.Kernel5Ideal.Own (four_rows)

variable (m : (ℓ : Loc nD τ sig) → Buf (Elt Ideal) ℓ) (c : Dev nD)

set_option maxHeartbeats 8000000 in
theorem out_A (t : Fin cfg0.N) (h0 : t.val % 8 = 0) (k h : Fin 128) (i : Fin 16) :
    (outsAt0 m c t.val t.isLt).1 (ix3 k i h)
      = shown m c (entering (logs m c) (hends m c) (stots m c)) k h (16 * t.val + i.val) := by
  rw [Gen.outsAt0_A m c t h0]
  frame_open
  simp (disch := decide) only [↓ View.readCov_skip, ↓ View.readCov_cons_toLoadRect, ↓ View.readCov_fill]
  frame_out
  fin_cases i
  all_goals
    simp (disch := decide) only [↓ col_skip, ↓ col_hit]
    pointwise [k0_pay1, k0_pay2, k0_pay39, k0_pay40, k0_pay41, k0_pay42, k0_pay43, k0_pay44,
    k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88,
    k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199,
    k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219,
    k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239,
    k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269,
    k0_pay270, k0_pay271, k0_pay272, k0_pay273, k0_pay274, k0_pay275, enter0_0, enter0_1, enter0_2, enter0_3, decays_eq, lasts_eq]
    simp only [read_dt, read_u, read_bc, read_rate, read_hend, read_stot, enter_at m c t h0]
    rfl

end Cert.Kernel6Ideal.Own

end
-- ==== Proof.Pass2Array.lean ====
/- What the call that runs every chunk from its start leaves: the output of every chunk at every time. -/
module

public import proofs.«01_k».proof.Proof.Outputs
public import proofs.«01_k».proof.Proof.Pass2State
public import proofs.«01_k».proof.Proof.Pass2Out
public import proofs.«01_k».proof.Proof.Pass2First

@[expose] public section

set_option maxRecDepth 16384

noncomputable section

namespace Cert.Kernel6Ideal.Own

open Idealize.ShloMosaic Idealize.ShloMosaic.TcCoe Cert.Kernel6Ideal Cert.Kernel6Ideal.Gen Cert.Spec

variable (m : (ℓ : Loc nD τ sig) → Buf (Elt Ideal) ℓ) (c : Dev nD)

/-- What every chunk starts from. -/
abbrev starts : Cube 4 128 128 := entering (logs m c) (hends m c) (stots m c)

/-- After every grid point: the states carried, and the output's block. -/
theorem carried : ∀ (n : ℕ) (hn : n < cfg0.N),
    (∀ (j : Fin 4) (k h : Fin 128), (outsAt0 m c n hn).2 (ix3 j k h) = states m c (starts m c) (16 * n + 16) (ix3 j k h))
    ∧ ∀ (k h : Fin 128) (i : Fin 16), (outsAt0 m c n hn).1 (ix3 k i h) = shown m c (starts m c) k h (16 * n + i.val)
  | 0, hn => ⟨state_A m c ⟨0, hn⟩ (Nat.zero_mod 8), out_A m c ⟨0, hn⟩ (Nat.zero_mod 8)⟩
  | n + 1, hn => by
    have hs := (carried n (Nat.lt_of_succ_lt hn)).1
    have hN : n + 1 < 8 := lt_of_lt_of_eq hn N_0
    have h0 : ¬(n + 1) % 8 = 0 := by omega
    exact ⟨state_B m c (starts m c) ⟨n + 1, hn⟩ h0 hs, out_B m c (starts m c) ⟨n + 1, hn⟩ h0 hs⟩

theorem array_eq : Value.G6 m c = outputs (dts m c) (us m c) (bcs m c) (logs m c) (starts m c) := by
  funext i
  have b0 : (i 0).val < 128 := (i 0).isLt
  have b1 : (i 1).val < 128 := (i 1).isLt
  have b2 : (i 2).val < 128 := (i 2).isLt
  have hp : Value.pt6Of i = (i 1).val / 16 := by
    show 8 * ((i 0).val / 128 - 0) + 1 * ((i 1).val / 16 - 0) + 1 * ((i 2).val / 128 - 0) = _
    omega
  have hq : (i 1).val / 16 < cfg0.N := lt_of_lt_of_eq (show (i 1).val / 16 < 8 by omega) N_0.symm
  have hl : Value.loc6Of i = ix3 (i 0) ⟨(i 1).val % 16, Nat.mod_lt _ (by decide)⟩ (i 2) := by
    funext a
    fin_cases a
    · exact Fin.ext (Nat.mod_eq_of_lt b0)
    · rfl
    · exact Fin.ext (Nat.mod_eq_of_lt b2)
  unfold Value.G6
  rw [dif_pos (by rw [hp]; exact hq), hl, Value.fold0_congr m c _ _ ((i 1).val / 16) (by omega) hp, ← Value.outsAt0_sweep m c _ hq]
  refine ((carried m c _ hq).2 (i 0) (i 2) ⟨(i 1).val % 16, Nat.mod_lt _ (by decide)⟩).trans ?_
  show weighed (dts m c) (us m c) (bcs m c) (logs m c) (starts m c) (i 0) (i 2) (16 * ((i 1).val / 16) + (i 1).val % 16) = _
  rw [Nat.div_add_mod]
  rfl

end Cert.Kernel6Ideal.Own

end
-- ==== Proof.Pass2Run.lean ====
/- The loop of the reference that scans from each chunk's entering state, run in the sequence its trips make. -/
module

public import proofs.«01_k».proof.Proof.Gen.Reference6Ideal.Run
public import proofs.«01_k».proof.Proof.Gen.Reference6Ideal.Step

@[expose] public section

noncomputable section

namespace Cert.Reference6Ideal.StepRun

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v30_5) = s.main_v30_5
  f_6 : V0 (Proc.devRef .tc main_v30_6) = s.main_v30_6
  f_0 : V0 (Proc.devRef .tc main_v30_0) = s.main_v30_0
  f_1 : V0 (Proc.devRef .tc main_v30_1) = s.main_v30_1
  f_2 : V0 (Proc.devRef .tc main_v30_2) = s.main_v30_2
  f_3 : V0 (Proc.devRef .tc main_v30_3) = s.main_v30_3
  n_4 : V0 (Proc.devRef .tc main_v30_4) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.Reference6Ideal.Step.b0 j s := by
  unfold Cert.Reference6Ideal.Step.b0
  rfl
set_option maxRecDepth 8192 in
theorem al_1 (h : Holds V0 s j) : (constantI S_ 32 0#32 : (Proc.devRef .tc main_while0b_call1_c_0 : DevRef τ sig).ty.Contents (Elt F)) = Cert.Reference6Ideal.Step.b1 j s := by
  unfold Cert.Reference6Ideal.Step.b1
  rfl
set_option maxRecDepth 8192 in
theorem al_2 (h : Holds V0 s j) : (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128 : (Proc.devRef .tc main_while0b_call1_v0 : DevRef τ sig).ty.Contents (Elt F)) = Cert.Reference6Ideal.Step.b2 j s := by
  unfold Cert.Reference6Ideal.Step.b2
  rw [← al_0 h, ← al_1 h, h.f_0, h.n_4]
  try rfl
set_option maxRecDepth 8192 in
theorem al_3 (h : Holds V0 s j) : (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128 : (Proc.devRef .tc main_while0b_v32 : DevRef τ sig).ty.Contents (Elt F)) = Cert.Reference6Ideal.Step.b3 j s := by
  unfold Cert.Reference6Ideal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.Reference6Ideal.Step.b4 j s := by
  unfold Cert.Reference6Ideal.Step.b4
  rfl
set_option maxRecDepth 8192 in
theorem al_5 (h : Holds V0 s j) : (constantI S_ 32 0#32 : (Proc.devRef .tc main_while0b_call2_c_0 : DevRef τ sig).ty.Contents (Elt F)) = Cert.Reference6Ideal.Step.b5 j s := by
  unfold Cert.Reference6Ideal.Step.b5
  rfl
set_option maxRecDepth 8192 in
theorem al_6 (h : Holds V0 s j) : (Host.dynamicSlice S1x128x128 (V0 (Proc.devRef .tc main_v30_1)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128 : (Proc.devRef .tc main_while0b_call2_v0 : DevRef τ sig).ty.Contents (Elt F)) = Cert.Reference6Ideal.Step.b6 j s := by
  unfold Cert.Reference6Ideal.Step.b6
  rw [← al_4 h, ← al_5 h, h.f_1, h.n_4]
  try rfl
set_option maxRecDepth 8192 in
theorem al_7 (h : Holds V0 s j) : (shapeCast S128x128 (Host.dynamicSlice S1x128x128 (V0 (Proc.devRef .tc main_v30_1)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128 : (Proc.devRef .tc main_while0b_v33 : DevRef τ sig).ty.Contents (Elt F)) = Cert.Reference6Ideal.Step.b7 j s := by
  unfold Cert.Reference6Ideal.Step.b7
  rw [← al_6 h]
  try rfl
set_option maxRecDepth 8192 in
theorem al_8 (h : Holds V0 s j) : (constantI S_ 32 0#32 : (Proc.devRef .tc main_while0b_call3_c : DevRef τ sig).ty.Contents (Elt F)) = Cert.Reference6Ideal.Step.b8 j s := by
  unfold Cert.Reference6Ideal.Step.b8
  rfl
set_option maxRecDepth 8192 in
theorem al_9 (h : Holds V0 s j) : (constantI S_ 32 0#32 : (Proc.devRef .tc main_while0b_call3_c_0 : DevRef τ sig).ty.Contents (Elt F)) = Cert.Reference6Ideal.Step.b9 j s := by
  unfold Cert.Reference6Ideal.Step.b9
  rfl
set_option maxRecDepth 8192 in
theorem al_10 (h : Holds V0 s j) : (Host.dynamicSlice S1x128x8 (V0 (Proc.devRef .tc main_v30_2)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x8_S1x128x8 : (Proc.devRef .tc main_while0b_call3_v0 : DevRef τ sig).ty.Contents (Elt F)) = Cert.Reference6Ideal.Step.b10 j s := by
  unfold Cert.Reference6Ideal.Step.b10
  rw [← al_8 h, ← al_9 h, h.f_2, h.n_4]
  try rfl
set_option maxRecDepth 8192 in
theorem al_11 (h : Holds V0 s j) : (res_main_while0b_v34 V0 : (Proc.devRef .tc main_while0b_v34 : DevRef τ sig).ty.Contents (Elt F)) = Cert.Reference6Ideal.Step.b11 j s := by
  unfold res_main_while0b_v34 Cert.Reference6Ideal.Step.b11
  rw [← al_10 h]
  try rfl
set_option maxRecDepth 8192 in
theorem al_12 (h : Holds V0 s j) : (broadcastInDim S128x128x1 ![0, 1] bcast_S128x128_S128x128x1_0_1 (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128) : (Proc.devRef .tc main_while0b_v35 : DevRef τ sig).ty.Contents (Elt F)) = Cert.Reference6Ideal.Step.b12 j s := by
  unfold Cert.Reference6Ideal.Step.b12
  rw [← al_3 h]
  try rfl
set_option maxRecDepth 8192 in
theorem al_13 (h : Holds V0 s j) : (broadcastInDim S1x128x4 ![1, 2] bcast_S128x4_S1x128x4_1_2 (V0 (Proc.devRef .tc main_v30_3)) : (Proc.devRef .tc main_while0b_v36 : DevRef τ sig).ty.Contents (Elt F)) = Cert.Reference6Ideal.Step.b13 j s := by
  unfold Cert.Reference6Ideal.Step.b13
  rw [h.f_3]
  try rfl
set_option maxRecDepth 8192 in
theorem al_14 (h : Holds V0 s j) : (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128)) : (Proc.devRef .tc main_while0b_v37 : DevRef τ sig).ty.Contents (Elt F)) = Cert.Reference6Ideal.Step.b14 j s := by
  unfold Cert.Reference6Ideal.Step.b14
  rw [← al_12 h]
  try rfl
set_option maxRecDepth 8192 in
theorem al_15 (h : Holds V0 s j) : (broadcastInDim S128x128x4 ![0, 1, 2] bcast_S1x128x4_S128x128x4_0_1_2 (broadcastInDim S1x128x4 ![1, 2] bcast_S128x4_S1x128x4_1_2 (V0 (Proc.devRef .tc main_v30_3))) : (Proc.devRef .tc main_while0b_v38 : DevRef τ sig).ty.Contents (Elt F)) = Cert.Reference6Ideal.Step.b15 j s := by
  unfold Cert.Reference6Ideal.Step.b15
  rw [← al_13 h]
  try rfl
set_option maxRecDepth 8192 in
theorem al_16 (h : Holds V0 s j) : (mulf (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128))) (broadcastInDim S128x128x4 ![0, 1, 2] bcast_S1x128x4_S128x128x4_0_1_2 (broadcastInDim S1x128x4 ![1, 2] bcast_S128x4_S1x128x4_1_2 (V0 (Proc.devRef .tc main_v30_3)))) : (Proc.devRef .tc main_while0b_v39 : DevRef τ sig).ty.Contents (Elt F)) = Cert.Reference6Ideal.Step.b16 j s := by
  unfold Cert.Reference6Ideal.Step.b16
  rw [← al_14 h, ← al_15 h]
  try rfl
set_option maxRecDepth 8192 in
theorem al_17 (h : Holds V0 s j) : (Host.exp (mulf (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128))) (broadcastInDim S128x128x4 ![0, 1, 2] bcast_S1x128x4_S128x128x4_0_1_2 (broadcastInDim S1x128x4 ![1, 2] bcast_S128x4_S1x128x4_1_2 (V0 (Proc.devRef .tc main_v30_3))))) : (Proc.devRef .tc main_while0b_v40 : DevRef τ sig).ty.Contents (Elt F)) = Cert.Reference6Ideal.Step.b17 j s := by
  unfold Cert.Reference6Ideal.Step.b17
  rw [← al_16 h]
  try rfl
set_option maxRecDepth 8192 in
theorem al_18 (h : Holds V0 s j) : (mulf (Host.exp (mulf (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_0)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128))) (broadcastInDim S128x128x4 ![0, 1, 2] bcast_S1x128x4_S128x128x4_0_1_2 (broadcastInDim S1x128x4 ![1, 2] bcast_S128x4_S1x128x4_1_2 (V0 (Proc.devRef .tc main_v30_3)))))) (V0 (Proc.devRef .tc main_v30_5)) : (Proc.devRef .tc main_while0b_v41 : DevRef τ sig).ty.Contents (Elt F)) = Cert.Reference6Ideal.Step.b18 j s := by
  unfold Cert.Reference6Ideal.Step.b18
  rw [← al_17 h, h.f_5]
  try rfl
set_option maxRecDepth 8192 in
theorem al_19 (h : Holds V0 s j) : (broadcastInDim S128x128x1 ![0, 1] bcast_S128x128_S128x128x1_0_1 (shapeCast S128x128 (Host.dynamicSlice S1x128x128 (V0 (Proc.devRef .tc main_v30_1)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128) : (Proc.devRef .tc main_while0b_v42 : DevRef τ sig).ty.Contents (Elt F)) = Cert.Reference6Ideal.Step.b19 j s := by
  unfold Cert.Reference6Ideal.Step.b19
  rw [← al_7 h]
  try rfl
set_option maxRecDepth 8192 in
theorem al_20 (h : Holds V0 s j) : (extractStridedSlice S128x4 ![0, 0] (res_main_while0b_v34 V0) slices_S128x8_S128x4_0_0 : (Proc.devRef .tc main_while0b_v43 : DevRef τ sig).ty.Contents (Elt F)) = Cert.Reference6Ideal.Step.b20 j s := by
  unfold Cert.Reference6Ideal.Step.b20
  rw [← al_11 h]
  try rfl
set_option maxRecDepth 8192 in
theorem al_21 (h : Holds V0 s j) : (broadcastInDim S128x1x4 ![0, 2] bcast_S128x4_S128x1x4_0_2 (extractStridedSlice S128x4 ![0, 0] (res_main_while0b_v34 V0) slices_S128x8_S128x4_0_0) : (Proc.devRef .tc main_while0b_v44 : DevRef τ sig).ty.Contents (Elt F)) = Cert.Reference6Ideal.Step.b21 j s := by
  unfold Cert.Reference6Ideal.Step.b21
  rw [← al_20 h]
  try rfl
set_option maxRecDepth 8192 in
theorem al_22 (h : Holds V0 s j) : (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_1)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128)) : (Proc.devRef .tc main_while0b_v45 : DevRef τ sig).ty.Contents (Elt F)) = Cert.Reference6Ideal.Step.b22 j s := by
  unfold Cert.Reference6Ideal.Step.b22
  rw [← al_19 h]
  try rfl
set_option maxRecDepth 8192 in
theorem al_23 (h : Holds V0 s j) : (broadcastInDim S128x128x4 ![0, 1, 2] bcast_S128x1x4_S128x128x4_0_1_2 (broadcastInDim S128x1x4 ![0, 2] bcast_S128x4_S128x1x4_0_2 (extractStridedSlice S128x4 ![0, 0] (res_main_while0b_v34 V0) slices_S128x8_S128x4_0_0)) : (Proc.devRef .tc main_while0b_v46 : DevRef τ sig).ty.Contents (Elt F)) = Cert.Reference6Ideal.Step.b23 j s := by
  unfold Cert.Reference6Ideal.Step.b23
  rw [← al_21 h]
  try rfl
set_option maxRecDepth 8192 in
theorem al_24 (h : Holds V0 s j) : (mulf (broadcastInDim S128x128x4 ![0, 1, 2] bcast_S128x128x1_S128x128x4_0_1_2 (broadcastInDim S128x128x1 ![0, 1] bcast_S128x128_S128x128x1_0_1 (shapeCast S128x128 (Host.dynamicSlice S1x128x128 (V0 (Proc.devRef .tc main_v30_1)) (fun k => (((![V0 (Proc.devRef .tc main_v30_4), constantI S_ 32 0#32, constantI S_ 32 0#32] : Fin 3 → (⟨S_, .i32⟩ : BufTy).Contents (Elt F))) k (Shape.Idx.first h_S_)).toInt) sliceFits_S128x128x128_S1x128x128) shapeCasts_S1x128x128_S128x128))) (broadcastInDim S128x128x4 ![0, 1, 2] bcast_S128x1x4_S128x128x4_0_1_2 (broadcastInDim S128x1x4 ![0, 2] bcast_S128x4_S128x1x4_0_2 (extractStridedSlice S128x4 ![0, 0] (res_main_while0b_v34 V0) slices_S128x8_S128x4_0_0))) : (Proc.devRef .tc main_while0b_v47 : DevRef τ sig).ty.Contents (Elt F)) = Cert.Reference6Ideal.Step.b24 j s := by
  unfold Cert.Reference6Ideal.Step.b24
  rw [← al_22 h, ← al_23 h]
  try rfl
set_option maxRecDepth 8192 in
theorem al_25 (h : Holds V0 s j) : (res_main_while0b_v48 V0 : (Proc.devRef .tc main_while0b_v48 : DevRef τ sig).ty.Contents (Elt F)) = Cert.Reference6Ideal.Step.b25 j s := by
  unfold res_main_while0b_v48 Cert.Reference6Ideal.Step.b25
  rw [← al_18 h, ← al_24 h]
  try rfl
set_option maxRecDepth 8192 in
theorem al_26 (h : Holds V0 s j) : (extractStridedSlice S128x4 ![0, 4] (res_main_while0b_v34 V0) slices_S128x8_S128x4_0_4 : (Proc.devRef .tc main_while0b_v49 : DevRef τ sig).ty.Contents (Elt F)) = Cert.Reference6Ideal.Step.b26 j s := by
  unfold Cert.Reference6Ideal.Step.b26
  rw [← al_11 h]
  try rfl
set_option maxRecDepth 8192 in
theorem al_27 (h : Holds V0 s j) : (broadcastInDim S128x1x4 ![0, 2] bcast_S128x4_S128x1x4_0_2 (extractStridedSlice S128x4 ![0, 4] (res_main_while0b_v34 V0) slices_S128x8_S128x4_0_4) : (Proc.devRef .tc main_while0b_v50 : DevRef τ sig).ty.Contents (Elt F)) = Cert.Reference6Ideal.Step.b27 j s := by
  unfold Cert.Reference6Ideal.Step.b27
  rw [← al_26 h]
  try rfl
set_option maxRecDepth 8192 in
theorem al_28 (h : Holds V0 s j) : (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4)) : (Proc.devRef .tc main_while0b_v51 : DevRef τ sig).ty.Contents (Elt F)) = Cert.Reference6Ideal.Step.b28 j s := by
  unfold Cert.Reference6Ideal.Step.b28
  rw [← al_27 h]
  try rfl
set_option maxRecDepth 8192 in
theorem al_29 (h : Holds V0 s j) : (mulf (res_main_while0b_v48 V0) (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4))) : (Proc.devRef .tc main_while0b_v52 : DevRef τ sig).ty.Contents (Elt F)) = Cert.Reference6Ideal.Step.b29 j s := by
  unfold Cert.Reference6Ideal.Step.b29
  rw [← al_25 h, ← al_28 h]
  try rfl
set_option maxRecDepth 8192 in
theorem al_30 (h : Holds V0 s j) : (constant S_ .f32 0x00000000#32 : (Proc.devRef .tc main_while0b_cst_7 : DevRef τ sig).ty.Contents (Elt F)) = Cert.Reference6Ideal.Step.b30 j s := by
  unfold Cert.Reference6Ideal.Step.b30
  rfl
set_option maxRecDepth 8192 in
theorem al_31 (h : Holds V0 s j) : (Host.reduceAdd (mulf (res_main_while0b_v48 V0) (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4)))) (constant S_ .f32 0x00000000#32) reducesTo_S128x128x4_S128x128_d2 h_S_ : (Proc.devRef .tc main_while0b_v53 : DevRef τ sig).ty.Contents (Elt F)) = Cert.Reference6Ideal.Step.b31 j s := by
  unfold Cert.Reference6Ideal.Step.b31
  rw [← al_29 h, ← al_30 h]
  try rfl
set_option maxRecDepth 8192 in
theorem al_32 (h : Holds V0 s j) : (broadcastInDim S1x128x128 ![1, 2] bcast_S128x128_S1x128x128_1_2 (Host.reduceAdd (mulf (res_main_while0b_v48 V0) (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4)))) (constant S_ .f32 0x00000000#32) reducesTo_S128x128x4_S128x128_d2 h_S_) : (Proc.devRef .tc main_while0b_call4_v0 : DevRef τ sig).ty.Contents (Elt F)) = Cert.Reference6Ideal.Step.b32 j s := by
  unfold Cert.Reference6Ideal.Step.b32
  rw [← al_31 h]
  try rfl
set_option maxRecDepth 8192 in
theorem al_33 (h : Holds V0 s j) : (constantI S_ 32 0#32 : (Proc.devRef .tc main_while0b_call4_c : DevRef τ sig).ty.Contents (Elt F)) = Cert.Reference6Ideal.Step.b33 j s := by
  unfold Cert.Reference6Ideal.Step.b33
  rfl
set_option maxRecDepth 8192 in
theorem al_34 (h : Holds V0 s j) : (constantI S_ 32 0#32 : (Proc.devRef .tc main_while0b_call4_c_0 : DevRef τ sig).ty.Contents (Elt F)) = Cert.Reference6Ideal.Step.b34 j s := by
  unfold Cert.Reference6Ideal.Step.b34
  rfl
set_option maxRecDepth 8192 in
theorem al_35 (h : Holds V0 s j) : (Host.dynamicUpdateSlice (V0 (Proc.devRef .tc main_v30_6)) (broadcastInDim S1x128x128 ![1, 2] bcast_S128x128_S1x128x128_1_2 (Host.reduceAdd (mulf (res_main_while0b_v48 V0) (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4)))) (constant S_ .f32 0x00000000#32) reducesTo_S128x128x4_S128x128_d2 h_S_)) (fun k => (((![V0 (Proc.devRef .tc main_v30_4), constantI S_ 32 0#32, constantI S_ 32 0#32] : Fin 3 → (⟨S_, .i32⟩ : BufTy).Contents (Elt F))) k (Shape.Idx.first h_S_)).toInt) updateFits_S128x128x128_S1x128x128 : (Proc.devRef .tc main_while0b_v54 : DevRef τ sig).ty.Contents (Elt F)) = Cert.Reference6Ideal.Step.b35 j s := by
  unfold Cert.Reference6Ideal.Step.b35
  rw [← al_32 h, ← al_33 h, ← al_34 h, h.f_6, h.n_4]
  try rfl

/-! One trip's step of the carried values is `step`, field by field; a counter steps to the next number. -/

theorem step_5 (h : Holds V0 s j) : step_main_v30_5 V0 = (step j s).main_v30_5 := by
  unfold step_main_v30_5 Cert.Reference6Ideal.Step.step
  show id (res_main_while0b_v48 V0) = _
  rw [al_25 h]
  try rfl
theorem step_6 (h : Holds V0 s j) : step_main_v30_6 V0 = (step j s).main_v30_6 := by
  unfold step_main_v30_6 Cert.Reference6Ideal.Step.step
  show id (Host.dynamicUpdateSlice (V0 (Proc.devRef .tc main_v30_6)) (broadcastInDim S1x128x128 ![1, 2] bcast_S128x128_S1x128x128_1_2 (Host.reduceAdd (mulf (res_main_while0b_v48 V0) (broadcastInDim S128x128x4 ![0, 1, 2] bcast_S128x1x4_S128x128x4_0_1_2 (broadcastInDim S128x1x4 ![0, 2] bcast_S128x4_S128x1x4_0_2 (extractStridedSlice S128x4 ![0, 4] (res_main_while0b_v34 V0) slices_S128x8_S128x4_0_4)))) (constant S_ .f32 0x00000000#32) reducesTo_S128x128x4_S128x128_d2 h_S_)) (fun k => (((![V0 (Proc.devRef .tc main_v30_4), constantI S_ 32 0#32, constantI S_ 32 0#32] : Fin 3 → (⟨S_, .i32⟩ : BufTy).Contents (Elt F))) k (Shape.Idx.first h_S_)).toInt) updateFits_S128x128x128_S1x128x128) = _
  exact al_35 h
theorem step_4 (h : Holds V0 s j) : step_main_v30_4 V0 = constantI S_ 32 (BitVec.ofNat 32 (j + 1)) := by
  unfold step_main_v30_4
  rw [h.n_4]
  funext i
  show BitVec.ofNat 32 j + 1#32 = BitVec.ofNat 32 (j + 1)
  simp only [BitVec.ofNat_add]

set_option maxRecDepth 8192 in
theorem out_main_v31_holds (h : Holds V0 s j) : out_main_v31 V0 = Cert.Reference6Ideal.Step.R_main_v31 s := by
  unfold out_main_v31 Cert.Reference6Ideal.Step.R_main_v31
  rw [h.f_6]
  try rfl

/-- One trip keeps the valuation holding: `step` of the state, the same set-up values, the next number. -/
theorem holds_step (h : Holds V0 s j) : Holds (STEP V0) (step j s) (j + 1) where
  f_5 := (STEP_main_v30_5 V0).trans (step_5 h)
  f_6 := (STEP_main_v30_6 V0).trans (step_6 h)
  n_4 := (STEP_main_v30_4 V0).trans (step_4 h)
  f_0 := (STEP_main_v30_0 V0).trans h.f_0
  f_1 := (STEP_main_v30_1 V0).trans h.f_1
  f_2 := (STEP_main_v30_2 V0).trans h.f_2
  f_3 := (STEP_main_v30_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference6Ideal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v31) = Cert.Reference6Ideal.Step.R_main_v31 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v31_holds hk), (h c).2.1, (h c).2.2.1, (h c).2.2.2.1, (h c).2.2.2.2.1, (h c).2.2.2.2.2.1, (h c).2.2.2.2.2.2⟩) (Value.run m ρ)

end Cert.Reference6Ideal.StepRun

end
-- ==== Proof.Pass2Before.lean ====
/- What the reference of the call that runs every chunk from its start makes before its loop: what each chunk starts from. -/
module

public import proofs.«01_k».proof.Proof.Outputs
public import proofs.«01_k».proof.Proof.Pass2Run
public import Idealize.ShloMosaic.Lib.StackMember

@[expose] public section

set_option maxRecDepth 16384

noncomputable section

namespace Cert.Reference6Ideal.Plain

open Idealize.ShloMosaic Cert.Reference6Ideal Cert.Reference6Ideal.Step Cert.Spec
open Idealize.ShloMosaic.ValueIdx (contrEquiv1 contrEquiv1_symm_val)

variable (x0 x1 : Cube 128 128 128) (x2 : Cube 128 128 8) (x3 : Mat 128 4) (x4 : Cube 4 128 128) (x5 : Mat 128 128)

/-- The mask of the chunks before a chunk. -/
theorem earlier (a b : Fin 128) : K_main_v7 (F := Ideal) (ix2 a b) = if b.val < a.val then 1#1 else 0#1 := by
  pointwise [K_main_v7, K_main_v6, K_main_v5, K_main_v4, K_main_v3, K_main_v2]
  revert a b
  decide +kernel

theorem set_bit : FloatOps.uitofp (F := Ideal) .f32 1#1 = (1 : EReal) := by
  show (((1#1 : BitVec 1).toNat : ℝ) : EReal) = 1
  simp

theorem clear_bit : FloatOps.uitofp (F := Ideal) .f32 0#1 = (0 : EReal) := by
  show (((0#1 : BitVec 1).toNat : ℝ) : EReal) = 0
  simp

/-- The mask of the chunks between two chunks, as numbers. -/
theorem between (a b d : Fin 128) :
    K_main_v14 (F := Ideal) (ix3 a b d) = if b.val < d.val ∧ d.val < a.val then (1 : EReal) else 0 := by
  pointwise [K_main_v14, K_main_v13, K_main_v12, K_main_v11, K_main_v10, K_main_v9, K_main_v8]
  rw [earlier, earlier]
  by_cases h1 : d.val < a.val <;> by_cases h2 : b.val < d.val
  · rw [if_pos h1, if_pos h2, if_pos ⟨h2, h1⟩]
    exact set_bit
  · rw [if_pos h1, if_neg h2, if_neg fun h => h2 h.1]
    exact clear_bit
  · rw [if_neg h1, if_pos h2, if_neg fun h => h1 h.2]
    exact clear_bit
  · rw [if_neg h1, if_neg h2, if_neg fun h => h1 h.2]
    exact clear_bit

/-- The time between two chunks. -/
theorem time_entry (a b h : Fin 128) : A_main_v15 (F := Ideal) x0 x1 x2 x3 x4 x5 (ix3 a b h)
    = span (fun d => x5 (ix2 (clock d) h)) b.val a.val := by
  unfold A_main_v15
  simp only [Host.dotGeneral]
  rw [Ideal.dotGeneral_apply, ← Equiv.sum_comp (contrEquiv1 dot_S128x128x128_S128x128_S128x128x128_2_0_01_1_n_n 128 rfl rfl).symm,
    ← sum_between _ _ a.isLt.le]
  refine Finset.sum_congr rfl fun d _ => ?_
  have hd := contrEquiv1_symm_val dot_S128x128x128_S128x128_S128x128x128_2_0_01_1_n_n 128 rfl rfl d
  have l : dot_S128x128x128_S128x128_S128x128x128_2_0_01_1_n_n.lhsIdx (ix3 a b h) ((contrEquiv1 _ 128 rfl rfl).symm d) = ix3 a b d := by
    funext ax; apply Fin.ext
    match ax with
    | ⟨0, _⟩ => rfl
    | ⟨1, _⟩ => rfl
    | ⟨2, _⟩ => exact hd
  have r : dot_S128x128x128_S128x128_S128x128x128_2_0_01_1_n_n.rhsIdx (ix3 a b h) ((contrEquiv1 _ 128 rfl rfl).symm d) = ix2 d h := by
    funext ax; apply Fin.ext
    match ax with
    | ⟨0, _⟩ => exact hd
    | ⟨1, _⟩ => rfl
  rw [l, r, between, clock_of_lt d.isLt]
  by_cases hc : b.val < d.val ∧ d.val < a.val
  · rw [if_pos hc, if_pos hc, one_mul]
  · rw [if_neg hc, if_neg hc, zero_mul]

/-- What a chunk's end state is multiplied by on its way to a chunk. -/
theorem decay_entry (a b h : Fin 128) (j : Fin 4) : A_main_v23 (F := Ideal) x0 x1 x2 x3 x4 x5 (ix4 a b h j)
    = if b.val < a.val then Ideal.exp (span (fun d => x5 (ix2 (clock d) h)) b.val a.val * rate x3 j h) else 0 := by
  pointwise [A_main_v23, A_main_v22, A_main_v21, A_main_v20, A_main_v19, A_main_v18, A_main_v17, A_main_v1, A_main_v0, K_main_call0_v1,
    K_main_call0_v2, K_main_call0_v0, K_main_cst, K_main_v16]
  rw [earlier, time_entry]
  by_cases hc : b.val < a.val
  · rw [if_pos hc, if_pos hc]
    rfl
  · rw [if_neg hc, if_neg hc]
    show Ideal.ofBits .f32 0x00000000#32 = 0
    exact Ideal.ofBits_zero_f32

/-- What each chunk starts from. -/
theorem start_entry (a h : Fin 128) (j : Fin 4) :
    A_main_v25 (F := Ideal) x0 x1 x2 x3 x4 x5 (ix3 a h j) = summed x3 x4 x5 (ix3 j a h) := by
  pointwise [A_main_v25]
  unfold A_main_v24
  simp only [Host.dotGeneral]
  rw [Ideal.dotGeneral_apply, ← Equiv.sum_comp (contrEquiv1 dot_S4x128x128_S128x128x128x4_S128x4x128_1_1_n_0_20_23 128 rfl rfl).symm]
  show _ = ∑ b ∈ Finset.range a.val, Ideal.exp (span (fun d => x5 (ix2 (clock d) h)) b a.val * rate x3 j h) * x4 (ix3 j (clock b) h)
  rw [← sum_before _ a.isLt.le]
  refine Finset.sum_congr rfl fun b _ => ?_
  have hd := contrEquiv1_symm_val dot_S4x128x128_S128x128x128x4_S128x4x128_1_1_n_0_20_23 128 rfl rfl b
  have l : dot_S4x128x128_S128x128x128x4_S128x4x128_1_1_n_0_20_23.lhsIdx (ix3 h j a) ((contrEquiv1 _ 128 rfl rfl).symm b) = ix3 j b h := by
    funext ax; apply Fin.ext
    match ax with
    | ⟨0, _⟩ => rfl
    | ⟨1, _⟩ => exact hd
    | ⟨2, _⟩ => rfl
  have r : dot_S4x128x128_S128x128x128x4_S128x4x128_1_1_n_0_20_23.rhsIdx (ix3 h j a) ((contrEquiv1 _ 128 rfl rfl).symm b) = ix4 a b h j := by
    funext ax; apply Fin.ext
    match ax with
    | ⟨0, _⟩ => rfl
    | ⟨1, _⟩ => exact hd
    | ⟨2, _⟩ => rfl
    | ⟨3, _⟩ => rfl
  rw [l, r, decay_entry, clock_of_lt b.isLt]
  by_cases hc : b.val < a.val
  · rw [if_pos hc, if_pos hc]
    exact mul_comm _ _
  · rw [if_neg hc, if_neg hc]
    exact mul_zero _

end Cert.Reference6Ideal.Plain

end
-- ==== Proof.Pass2Ref.lean ====
/- The reference of the call that runs every chunk from its start: its loop holds the recurrence's states and the outputs so far. -/
module

public import proofs.«01_k».proof.Proof.Pass2Before

@[expose] public section

set_option maxRecDepth 16384

noncomputable section

namespace Cert.Reference6Ideal.Plain

open Idealize.ShloMosaic Cert.Reference6Ideal Cert.Reference6Ideal.Step Cert.Spec

variable (x0 x1 : Cube 128 128 128) (x2 : Cube 128 128 8) (x3 : Mat 128 4) (x4 : Cube 4 128 128) (x5 : Mat 128 128)

/-- The loop's values before trip `n`. -/
def plain (n : ℕ) : State Ideal where
  main_v30_5 := fun i => state x0 x1 x2 x3 (i 2) (i 0) (i 1) (summed x3 x4 x5 (ix3 (i 2) (i 0) (i 1))) n
  main_v30_6 := fun i => if (i 0).val < n then weighed x0 x1 x2 x3 (summed x3 x4 x5) (i 1) (i 2) (i 0).val else 0
  main_v30_0 := A_main_v26 (F := Ideal) x0 x1 x2 x3 x4 x5
  main_v30_1 := A_main_v27 (F := Ideal) x0 x1 x2 x3 x4 x5
  main_v30_2 := A_main_v28 (F := Ideal) x0 x1 x2 x3 x4 x5
  main_v30_3 := A_main_v1 (F := Ideal) x0 x1 x2 x3 x4 x5

theorem init_eq : plain x0 x1 x2 x3 x4 x5 0 = init (F := Ideal) x0 x1 x2 x3 x4 x5 := by
  simp only [plain, init, State.mk.injEq, and_true, true_and]
  constructor
  · funext i
    idx_vars i
    exact (start_entry _ _ _ _ _ _ _ _ _).symm
  · funext i
    idx_vars i
    pointwise [K_main_v29, K_main_cst_0]
    rw [if_neg (Nat.not_lt_zero _)]

theorem b3_apply {n : ℕ} (hn : n < 128) (k h : Fin 128) :
    b3 (F := Ideal) n (plain x0 x1 x2 x3 x4 x5 n) (ix2 k h) = x0 (ix3 k (clock n) h) := by
  pointwise [b3]
  unfold b2
  rw [trip_slice _ _ _ hn (toInt_ofNat_of_lt (by omega)) rfl rfl, clock_of_lt hn]
  pointwise [plain, A_main_v26]

theorem b7_apply {n : ℕ} (hn : n < 128) (k h : Fin 128) :
    b7 (F := Ideal) n (plain x0 x1 x2 x3 x4 x5 n) (ix2 k h) = x1 (ix3 k (clock n) h) := by
  pointwise [b7]
  unfold b6
  rw [trip_slice _ _ _ hn (toInt_ofNat_of_lt (by omega)) rfl rfl, clock_of_lt hn]
  pointwise [plain, A_main_v27]

theorem b11_apply {n : ℕ} (hn : n < 128) (k : Fin 128) (j : Fin 8) :
    b11 (F := Ideal) n (plain x0 x1 x2 x3 x4 x5 n) (ix2 k j) = x2 (ix3 k (clock n) j) := by
  pointwise [b11]
  unfold b10
  rw [trip_slice _ _ _ hn (toInt_ofNat_of_lt (by omega)) rfl rfl, clock_of_lt hn]
  pointwise [plain, A_main_v28]

theorem next_state {n : ℕ} (hn : n < 128) (k h : Fin 128) (j : Fin 4) :
    b25 (F := Ideal) n (plain x0 x1 x2 x3 x4 x5 n) (ix3 k h j) = state x0 x1 x2 x3 j k h (summed x3 x4 x5 (ix3 j k h)) (n + 1) := by
  pointwise [b25, b24, b23, b22, b21, b20, b19, b18, b17, b16, b15, b14, b13, b12]
  simp only [b3_apply _ _ _ _ _ _ hn, b7_apply _ _ _ _ _ _ hn, b11_apply _ _ _ _ _ _ hn, Cert.Spec.state, Cert.Spec.advance, Cert.Spec.rate]
  pointwise [plain, A_main_v1, A_main_v0]

theorem weight_apply {n : ℕ} (hn : n < 128) (k h : Fin 128) (j : Fin 4) :
    b29 (F := Ideal) n (plain x0 x1 x2 x3 x4 x5 n) (ix3 k h j)
      = state x0 x1 x2 x3 j k h (summed x3 x4 x5 (ix3 j k h)) (n + 1) * x2 (ix3 k (clock n) ⟨4 + j.val, by omega⟩) := by
  pointwise [b29, b28, b27, b26]
  rw [next_state _ _ _ _ _ _ hn, b11_apply _ _ _ _ _ _ hn]

theorem next_output {n : ℕ} (hn : n < 128) (k h : Fin 128) :
    b31 (F := Ideal) n (plain x0 x1 x2 x3 x4 x5 n) (ix2 k h) = weighed x0 x1 x2 x3 (summed x3 x4 x5) k h n := by
  pointwise [b31, b30]
  simp only [weight_apply _ _ _ _ _ _ hn]
  rw [Fin.sum_univ_four]
  rfl

theorem next_outputs {n : ℕ} (hn : n < 128) (t k h : Fin 128) :
    b35 (F := Ideal) n (plain x0 x1 x2 x3 x4 x5 n) (ix3 t k h)
      = if t.val < n + 1 then weighed x0 x1 x2 x3 (summed x3 x4 x5) k h t.val else 0 := by
  unfold b35
  rw [trip_put _ _ _ _ hn (toInt_ofNat_of_lt (by omega)) rfl rfl]
  by_cases ht : t.val = n
  · rw [if_pos ht, if_pos (by omega), ht]
    pointwise [b32]
    exact next_output _ _ _ _ _ _ hn k h
  · rw [if_neg ht]
    show (if t.val < n then _ else _) = _
    by_cases hl : t.val < n
    · rw [if_pos hl, if_pos (by omega)]
      rfl
    · rw [if_neg hl, if_neg (by omega)]

theorem step_eq {n : ℕ} (hn : n < 128) : plain x0 x1 x2 x3 x4 x5 (n + 1) = step n (plain x0 x1 x2 x3 x4 x5 n) := by
  unfold Step.step
  conv_lhs => unfold plain
  rw [State.mk.injEq]
  refine ⟨?_, ?_, rfl, rfl, rfl, rfl⟩
  · funext i
    idx_vars i
    rw [next_state _ _ _ _ _ _ hn]
  · funext i
    idx_vars i
    exact (next_outputs _ _ _ _ _ _ hn _ _ _).symm

/-- The loop's values, going on by the loop's own trip after its last. -/
def iter (n : ℕ) : State Ideal := Nat.rec (plain x0 x1 x2 x3 x4 x5 0) (fun n s => step n s) n

theorem iter_eq : ∀ n, n ≤ 128 → iter x0 x1 x2 x3 x4 x5 n = plain x0 x1 x2 x3 x4 x5 n
  | 0, _ => rfl
  | n + 1, h => by
    rw [step_eq x0 x1 x2 x3 x4 x5 (by omega), ← iter_eq n (by omega)]
    rfl

theorem outputs_eq : R_main_v31 (F := Ideal) (iter x0 x1 x2 x3 x4 x5 128) = outputs x0 x1 x2 x3 (summed x3 x4 x5) := by
  rw [iter_eq _ _ _ _ _ _ _ le_rfl]
  funext i
  idx_vars i
  pointwise [R_main_v31]
  exact if_pos (Fin.isLt _)

/-- Every run of the reference ends with the output of every chunk at every time, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
        = outputs (m ((c.tc : Thread nD τ).loc main_arg0)) (m ((c.tc : Thread nD τ).loc main_arg1))
          (m ((c.tc : Thread nD τ).loc main_arg2)) (m ((c.tc : Thread nD τ).loc main_arg3))
          (summed (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (outputs_eq _ _ _ _ _ _), (h c).2⟩)
    (StepRun.run_iter m ρ (fun c => iter (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)))
      (fun c => init_eq _ _ _ _ _ _) (fun _ _ => rfl))

end Cert.Reference6Ideal.Plain

end
-- ==== Proof.Pass2Pre.lean ====
/- The condition of the call that runs every chunk from its start: no chunk takes a negative time. -/
module

public import proofs.«01_k».proof.Pre_steps_not_negative
public import proofs.«01_k».proof.Proof.Scan

@[expose] public section

noncomputable section

namespace Cert.Pre_steps_not_negative

open Idealize.ShloMosaic Cert.Spec

theorem facts : Facts := ⟨by decide⟩

attribute [local instance] facts

/-- What the condition says of each chunk's time. -/
theorem not_negative {x0 x1 : Cube 128 128 128} {x2 : Cube 128 128 8} {x3 : Mat 128 4} {x4 : Cube 4 128 128} {x5 : Mat 128 128}
    (hp : fn (F := Ideal) x0 x1 x2 x3 x4 x5 = fun _ => 1#1) (k h : Fin 128) : 0 ≤ x5 (ix2 k h) := by
  have hk := congrFun hp (ix2 k h)
  revert hk
  unfold fn
  pointwise
  intro hk
  by_contra hn
  rw [decide_eq_false hn] at hk
  exact absurd hk (by decide)

end Cert.Pre_steps_not_negative

end
-- ==== Proof.lean ====
/- The certificate's claim: for each of the calls the three frames, that the idealised program is the printed
   one, and that the call's results equal the reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.StepRun
public import proofs.«01_k».proof.Proof.Gen.Reference5Ideal.Step
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Step
public import proofs.«01_k».proof.Proof.Array
public import proofs.«01_k».proof.Proof.RefValue
public import proofs.«01_k».proof.Proof.PrepArray
public import proofs.«01_k».proof.Proof.PrepRef
public import proofs.«01_k».proof.Proof.Post
public import proofs.«01_k».proof.Proof.Last
public import proofs.«01_k».proof.Proof.Pass1Array
public import proofs.«01_k».proof.Proof.Pass1Ref
public import proofs.«01_k».proof.Proof.Pass2Array
public import proofs.«01_k».proof.Proof.Pass2Ref
public import proofs.«01_k».proof.Proof.Pass2Pre
public import Idealize.ShloMosaic.Lib.Tactic

@[expose] public section

noncomputable section

namespace Cert.Proof

open Idealize.ShloMosaic Idealize.ShloMosaic.TcCoe Idealize.SL.Sem

/-- The reference always runs to its end and leaves its arguments as they were. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The two programs' results are equal. -/
theorem values : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨h0, h1, h2, h3, h4, h5, h6, h7, h8, h9, h10⟩ := hagree c
    rw [Cert.ReferenceIdeal.Read.val_main_v56_eq, h0, h1, h2, h3, h4, h5, h6, h7, h8, h9, h10]
    exact (Cert.ReferenceIdeal.Plain.result_eq _ _ _ _ _ _ _ _ _ _ _).trans (Cert.KernelIdeal.Block.array_eq m c).symm

/-- The reference of the call before a scan always runs to its end and leaves its arguments as they were. -/
theorem reference2_frame : Cert.quiescent_Reference2Ideal (hReference2Ideal := Cert.Reference2Ideal.Gen.facts) := fun m g _ =>
  (θ_run Cert.Reference2Ideal.defs _ _).mono (fun r h => ⟨fun c => (h c).2.2.2.2.2, sem_eq_zero_of_no_sems (by decide) r.2⟩)
    (Cert.Reference2Ideal.Value.run m g)

/-- The reference of the call after a scan that is not the last always runs to its end and leaves its arguments as they were. -/
theorem reference3_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

/-- The reference of the call after the last scan always runs to its end and leaves its arguments as they were. -/
theorem reference4_frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

/-- The five results of the call before a scan are the reference's. -/
theorem values2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    all_goals obtain ⟨h0, h1, h2, h3, h4, h5, h6, h7⟩ := hagree c
    · rw [Cert.Reference2Ideal.Read.val_main_v33_eq, h0, h1, h2, h3, h4, h5]
      exact (Cert.Reference2Ideal.Plain.step_eq _ _ _ _ _ _).trans (Cert.Kernel2Ideal.Block.step_eq m c).symm
    · rw [Cert.Reference2Ideal.Read.val_main_v36_eq, h0, h1, h2, h3, h4, h5]
      exact (Cert.Reference2Ideal.Plain.drive_eq _ _ _ _ _ _).trans (Cert.Kernel2Ideal.Block.drive_eq m c).symm
    · rw [Cert.Reference2Ideal.Read.val_main_v37_eq, h0, h1, h2, h3, h6, h7]
      exact (Cert.Reference2Ideal.Plain.coupling_eq _ _ _ _ _ _).trans (Cert.Kernel2Ideal.Block.coupling_eq m c).symm
    · rw [Cert.Reference2Ideal.Read.val_main_v25_eq]
      exact (Cert.Reference2Ideal.Plain.mixed_eq _ _ _ _).trans (Cert.Kernel2Ideal.Block.mixed_eq m c).symm
    · rw [Cert.Reference2Ideal.Read.val_main_v26_eq]
      exact (Cert.Reference2Ideal.Plain.gate_eq _ _ _ _).trans (Cert.Kernel2Ideal.Block.gate_eq m c).symm

/-- The result of the call after a scan that is not the last is the reference's. -/
theorem values3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [Cert.Reference3Ideal.Read.val_main_v7_eq]
    exact (Cert.Reference3Ideal.Plain.result_eq _ _ _ _ _ _).trans (Cert.Kernel3Ideal.Block.array_eq m c).symm

/-- The result of the call after the last scan is the reference's. -/
theorem values4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    obtain ⟨h0, h1, h2, h3, h4, h5, h6, h7⟩ := hagree c
    rw [Cert.Reference4Ideal.Read.val_main_v31_eq, h0, h1, h2, h3, h4, h5, h6, h7]
    exact (Cert.Reference4Ideal.Plain.result_eq _ _ _ _ _ _ _ _).trans (Cert.Kernel4Ideal.Block.array_eq m c).symm

/-- The reference of a scan's first call always runs to its end and leaves its arguments as they were. -/
theorem reference5_frame : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩)
    (Cert.Reference5Ideal.Plain.run m g)

/-- The reference of a scan's second call always runs to its end and leaves its arguments as they were. -/
theorem reference6_frame : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Plain.run m g)

/-- The two results of a scan's first call are the reference's. -/
theorem values5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run m g
  · run_from Cert.Reference5Ideal.Plain.run m' g'
    · exact (Cert.Kernel5Ideal.Own.final_states m c).symm
    · exact (Cert.Kernel5Ideal.Own.final_times m c).symm

/-- The result of a scan's second call is the reference's where no chunk takes a negative time. -/
theorem values6 : Cert.algebraic_Kernel6Ideal_Reference6Ideal_pre_steps_not_negative (hKernel6Ideal := Cert.Kernel6Ideal.Gen.facts)
    (hReference6Ideal := Cert.Reference6Ideal.Gen.facts) (hPre_steps_not_negative := Cert.Pre_steps_not_negative.facts) := by
  pair_intro
  · run_from Cert.Kernel6Ideal.Value.run m g
  · run_from Cert.Reference6Ideal.Plain.run m' g'
    exact ((Cert.Kernel6Ideal.Own.array_eq m c).trans (congrArg (Cert.Spec.outputs _ _ _ _)
      (Cert.Spec.entering_eq _ _ _ (Cert.Pre_steps_not_negative.not_negative (hpre c))))).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Pre_steps_not_negative.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, fun m ρ _ => Cert.Kernel6Ideal.Gen.frame m ρ, reference6_frame,
    fun m ρ _ => reference6_frame m ρ trivial,
    trivial, values, trivial, values2, trivial, values3, trivial, values4, trivial, values5, trivial, values6⟩

end Cert.Proof

end
